-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 1024, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 1024, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .f32) (main_arg1 : FVec F S512x256 .f32) (main_arg2 : FVec F S2x128x4x64 .f32) (main_arg3 : FVec F S2x128x4x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x4x64 .f32 := Host.absf main_arg2
  let main_cst_2 : FVec F S_ .f32 := constant S_ .f32 0x7F800000#32
  let main_v10 : FVec F S2x128x4x64 .f32 := broadcastInDim S2x128x4x64 ![] bcast_S_S2x128x4x64 main_cst_2
  let main_v11 : IVec S2x128x4x64 1 := cmpf .olt main_v9 main_v10
  let main_c_3 : IVec S_ 1 := constantI S_ 1 1#1
  let main_v12 : IVec S_ 1 := (fun x v => Host.reduce IntOp.andi x v reducesTo_S2x128x4x64_S_d0_1_2_3 h_S_) main_v11 main_c_3
  let main_v13 : IVec S_ 1 := andi main_v8 main_v12
  main_v13
-- ==== Pre_finite_scores_ReferenceIdeal.lean ====
abbrev S2x128x512 : Shape := ⟨3, ![2, 128, 512]⟩
abbrev S512x256 : Shape := ⟨2, ![512, 256]⟩
abbrev S2x1024x4x64 : Shape := ⟨4, ![2, 1024, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x1024x4x64 : S_.BroadcastsInDim S2x1024x4x64 (![] : Fin 0 → Fin S2x1024x4x64.rank)
  reducesTo_S2x1024x4x64_S_d0_1_2_3 : S2x1024x4x64.ReducesTo [0, 1, 2, 3] S_

variable [Facts]

def fn {F : FTy → Type} [FloatOps F] (main_arg0 : FVec F S2x128x512 .f32) (main_arg1 : FVec F S512x256 .f32) (main_arg2 : FVec F S2x1024x4x64 .f32) (main_arg3 : FVec F S2x1024x4x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x1024x4x64 .f32 := Host.absf main_arg2
  let main_cst_2 : FVec F S_ .f32 := constant S_ .f32 0x7F800000#32
  let main_v10 : FVec F S2x1024x4x64 .f32 := broadcastInDim S2x1024x4x64 ![] bcast_S_S2x1024x4x64 main_cst_2
  let main_v11 : IVec S2x1024x4x64 1 := cmpf .olt main_v9 main_v10
  let main_c_3 : IVec S_ 1 := constantI S_ 1 1#1
  let main_v12 : IVec S_ 1 := (fun x v => Host.reduce IntOp.andi x v reducesTo_S2x1024x4x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S136x256 : Shape := ⟨2, ![136, 256]⟩
abbrev S3x136x256 : Shape := ⟨3, ![3, 136, 256]⟩
abbrev S3 : Shape := ⟨1, ![3]⟩
abbrev S_ : Shape := ⟨0, ![]⟩
abbrev S256x256 : Shape := ⟨2, ![256, 256]⟩
abbrev S128x128 : Shape := ⟨2, ![128, 128]⟩
abbrev S128x64 : Shape := ⟨2, ![128, 64]⟩
abbrev S128 : Shape := ⟨1, ![128]⟩
abbrev S1x128 : Shape := ⟨2, ![1, 128]⟩
abbrev S2x128 : Shape := ⟨2, ![2, 128]⟩
abbrev S1 : Shape := ⟨1, ![1]⟩
abbrev S1x136x256 : Shape := ⟨3, ![1, 136, 256]⟩
abbrev S128x256 : Shape := ⟨2, ![128, 256]⟩
abbrev S128x1 : Shape := ⟨2, ![128, 1]⟩
abbrev S128x512 : Shape := ⟨2, ![128, 512]⟩
abbrev S1x128x512 : Shape := ⟨3, ![1, 128, 512]⟩

abbrev nBuf : Space → Nat
  | .hbm => 6
  | .vmem => 10
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x4x64, .f32⟩
  | .hbm, ⟨3, _⟩ => ⟨S2x128x4x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x4x64, .f32⟩
  | .local _ .vmem, ⟨3, _⟩ => ⟨S2x128x4x64, .f32⟩
  | .local _ .vmem, ⟨4, _⟩ => ⟨S256x512, .f32⟩
  | .local _ .vmem, ⟨5, _⟩ => ⟨S2x128x512, .f32⟩
  | .local _ .vmem, ⟨6, _⟩ => ⟨S136x256, .bf16⟩
  | .local _ .vmem, ⟨7, _⟩ => ⟨S136x256, .bf16⟩
  | .local _ .vmem, ⟨8, _⟩ => ⟨S3x136x256, .bf16⟩
  | .local _ .vmem, ⟨9, _⟩ => ⟨S3x136x256, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_3 : BitVec 32 := 1#32
  let v10 : BitVec 32 := Scalar.muli v3 c1_i32_3
  let v11 : BitVec 32 := Scalar.addi c0_i32 v10
  v11.toNat
def k0_dev2 (d0 : Dev nD) : Nat :=
  let c0_i32_6 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.remsi v2 c4_i32
  let v5 : BitVec 32 := Scalar.subi v2 v4
  let c3_i32 : BitVec 32 := 3#32
  let v6 : BitVec 32 := Scalar.subi c3_i32 v4
  let v7 : BitVec 32 := Scalar.addi v5 v6
  let c1_i32_5 : BitVec 32 := 1#32
  let v12 : BitVec 32 := Scalar.muli v7 c1_i32_5
  let v13 : BitVec 32 := Scalar.addi c0_i32_6 v12
  v13.toNat
def k0_dev3 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1 : BitVec 32 := 4#32
  let v8 : BitVec 32 := Scalar.xori v2 c4_i32_1
  let c1_i32_8 : BitVec 32 := 1#32
  let v14 : BitVec 32 := Scalar.muli v8 c1_i32_8
  let v15 : BitVec 32 := Scalar.addi c0_i32_9 v14
  v15.toNat
def k0_dev4 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_86 : BitVec 32 := 1#32
  let v194 : BitVec 32 := Scalar.muli v3 c1_i32_86
  let v195 : BitVec 32 := Scalar.addi c0_i32_87 v194
  v195.toNat
def k0_dev5 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.remsi v2 c4_i32
  let v5 : BitVec 32 := Scalar.subi v2 v4
  let c3_i32 : BitVec 32 := 3#32
  let v6 : BitVec 32 := Scalar.subi c3_i32 v4
  let v7 : BitVec 32 := Scalar.addi v5 v6
  let c1_i32_145 : BitVec 32 := 1#32
  let v310 : BitVec 32 := Scalar.muli v7 c1_i32_145
  let v311 : BitVec 32 := Scalar.addi c0_i32_146 v310
  v311.toNat
def k0_dev6 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.remsi v2 c4_i32
  let v5 : BitVec 32 := Scalar.subi v2 v4
  let c3_i32 : BitVec 32 := 3#32
  let v6 : BitVec 32 := Scalar.subi c3_i32 v4
  let v7 : BitVec 32 := Scalar.addi v5 v6
  let c1_i32_172 : BitVec 32 := 1#32
  let v335 : BitVec 32 := Scalar.muli v7 c1_i32_172
  let v336 : BitVec 32 := Scalar.addi c0_i32_173 v335
  v336.toNat
def k0_dev7 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1 : BitVec 32 := 4#32
  let v8 : BitVec 32 := Scalar.xori v2 c4_i32_1
  let c1_i32_199 : BitVec 32 := 1#32
  let v360 : BitVec 32 := Scalar.muli v8 c1_i32_199
  let v361 : BitVec 32 := Scalar.addi c0_i32_200 v360
  v361.toNat
def k0_dev8 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1 : BitVec 32 := 4#32
  let v8 : BitVec 32 := Scalar.xori v2 c4_i32_1
  let c1_i32_225 : BitVec 32 := 1#32
  let v385 : BitVec 32 := Scalar.muli v8 c1_i32_225
  let v386 : BitVec 32 := Scalar.addi c0_i32_226 v385
  v386.toNat
def k0_dev9 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_252 : BitVec 32 := 1#32
  let v410 : BitVec 32 := Scalar.muli v3 c1_i32_252
  let v411 : BitVec 32 := Scalar.addi c0_i32_253 v410
  v411.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x128x512 : Shape := ⟨3, ![2, 128, 512]⟩
abbrev S512x256 : Shape := ⟨2, ![512, 256]⟩
abbrev S2x1024x4x64 : Shape := ⟨4, ![2, 1024, 4, 64]⟩
abbrev S256x512 : Shape := ⟨2, ![256, 512]⟩
abbrev S2x128x256 : Shape := ⟨3, ![2, 128, 256]⟩
abbrev S2x128x4x64 : Shape := ⟨4, ![2, 128, 4, 64]⟩
abbrev S128 : Shape := ⟨1, ![128]⟩
abbrev S_ : Shape := ⟨0, ![]⟩
abbrev S128x1 : Shape := ⟨2, ![128, 1]⟩
abbrev S1024 : Shape := ⟨1, ![1024]⟩
abbrev S1x1024 : Shape := ⟨2, ![1, 1024]⟩
abbrev S128x1024 : Shape := ⟨2, ![128, 1024]⟩
abbrev S2x4x128x1024 : Shape := ⟨4, ![2, 4, 128, 1024]⟩
abbrev S1x1x128x1024 : Shape := ⟨4, ![1, 1, 128, 1024]⟩
abbrev S2x4x128 : Shape := ⟨3, ![2, 4, 128]⟩
abbrev S2x4x128x1 : Shape := ⟨4, ![2, 4, 128, 1]⟩
abbrev S1x1x128x1 : Shape := ⟨4, ![1, 1, 128, 1]⟩
abbrev S2x4x64x128 : Shape := ⟨4, ![2, 4, 64, 128]⟩

abbrev nBuf : Space → Nat
  | .hbm => 137
  | .vmem => 0
  | .smem => 0
  | _ => 0

abbrev hbmTy0_0 (i : Nat) : BufTy := match i % 128 with
  | 0 => ⟨S2x128x512, .f32⟩
  | 1 => ⟨S512x256, .f32⟩
  | 2 => ⟨S2x1024x4x64, .f32⟩
  | 3 => ⟨S2x1024x4x64, .f32⟩
  | 4 => ⟨S256x512, .f32⟩
  | 5 => ⟨S2x128x256, .f32⟩
  | 6 => ⟨S2x128x4x64, .f32⟩
  | 7 => ⟨S128, .i32⟩
  | 8 => ⟨S_, .i32⟩
  | 9 => ⟨S_, .i32⟩
  | 10 => ⟨S128, .i32⟩
  | 11 => ⟨S128, .i32⟩
  | 12 => ⟨S128, .i32⟩
  | 13 => ⟨S_, .i32⟩
  | 14 => ⟨S128, .i32⟩
  | 15 => ⟨S128, .i1⟩
  | 16 => ⟨S128, .i32⟩
  | 17 => ⟨S128, .i32⟩
  | 18 => ⟨S_, .i32⟩
  | 19 => ⟨S128, .i32⟩
  | 20 => ⟨S128, .i1⟩
  | 21 => ⟨S128, .i1⟩
  | 22 => ⟨S_, .i32⟩
  | 23 => ⟨S128, .i32⟩
  | 24 => ⟨S128, .i32⟩
  | 25 => ⟨S128, .i32⟩
  | 26 => ⟨S128x1, .i32⟩
  | 27 => ⟨S1024, .i32⟩
  | 28 => ⟨S_, .i32⟩
  | 29 => ⟨S_, .i32⟩
  | 30 => ⟨S1024, .i32⟩
  | 31 => ⟨S1024, .i32⟩
  | 32 => ⟨S1024, .i32⟩
  | 33 => ⟨S_, .i32⟩
  | 34 => ⟨S1024, .i32⟩
  | 35 => ⟨S1024, .i1⟩
  | 36 => ⟨S1024, .i32⟩
  | 37 => ⟨S1024, .i32⟩
  | 38 => ⟨S_, .i32⟩
  | 39 => ⟨S1024, .i32⟩
  | 40 => ⟨S1024, .i1⟩
  | 41 => ⟨S1024, .i1⟩
  | 42 => ⟨S_, .i32⟩
  | 43 => ⟨S1024, .i32⟩
  | 44 => ⟨S1024, .i32⟩
  | 45 => ⟨S1024, .i32⟩
  | 46 => ⟨S1x1024, .i32⟩
  | 47 => ⟨S128x1024, .i32⟩
  | 48 => ⟨S128x1024, .i32⟩
  | 49 => ⟨S128x1024, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x1024, .i32⟩
  | 57 => ⟨S1x1024, .i32⟩
  | 58 => ⟨S_, .i32⟩
  | 59 => ⟨S1x1024, .i32⟩
  | 60 => ⟨S1x1024, .i1⟩
  | 61 => ⟨S_, .i32⟩
  | 62 => ⟨S1x1024, .i32⟩
  | 63 => ⟨S1x1024, .i1⟩
  | 64 => ⟨S_, .i32⟩
  | 65 => ⟨S_, .i1⟩
  | 66 => ⟨S1x1024, .i1⟩
  | 67 => ⟨S1x1024, .i1⟩
  | 68 => ⟨S1x1024, .i1⟩
  | 69 => ⟨S1x1024, .i32⟩
  | 70 => ⟨S1x1024, .i32⟩
  | 71 => ⟨S1x1024, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S128x1, .i32⟩
  | 79 => ⟨S128x1, .i32⟩
  | 80 => ⟨S_, .i32⟩
  | 81 => ⟨S128x1, .i32⟩
  | 82 => ⟨S128x1, .i1⟩
  | 83 => ⟨S_, .i32⟩
  | 84 => ⟨S128x1, .i32⟩
  | 85 => ⟨S128x1, .i1⟩
  | 86 => ⟨S_, .i32⟩
  | 87 => ⟨S_, .i1⟩
  | 88 => ⟨S128x1, .i1⟩
  | 89 => ⟨S128x1, .i1⟩
  | 90 => ⟨S128x1, .i1⟩
  | 91 => ⟨S128x1, .i32⟩
  | 92 => ⟨S128x1, .i32⟩
  | 93 => ⟨S128x1, .i32⟩
  | 94 => ⟨S128x1024, .i32⟩
  | 95 => ⟨S128x1024, .i32⟩
  | 96 => ⟨S128x1024, .i1⟩
  | 97 => ⟨S128x1024, .i1⟩
  | 98 => ⟨S2x4x128x1024, .f32⟩
  | 99 => ⟨S_, .f32⟩
  | 100 => ⟨S2x4x128x1024, .f32⟩
  | 101 => ⟨S2x4x128x1024, .f32⟩
  | 102 => ⟨S1x1x128x1024, .i1⟩
  | 103 => ⟨S_, .f32⟩
  | 104 => ⟨S_, .f32⟩
  | 105 => ⟨S2x4x128x1024, .i1⟩
  | 106 => ⟨S2x4x128x1024, .f32⟩
  | 107 => ⟨S2x4x128x1024, .f32⟩
  | 108 => ⟨S_, .f32⟩
  | 109 => ⟨S2x4x128, .f32⟩
  | 110 => ⟨S2x4x128x1, .f32⟩
  | 111 => ⟨S2x4x128x1024, .f32⟩
  | 112 => ⟨S2x4x128x1024, .f32⟩
  | 113 => ⟨S2x4x128x1024, .f32⟩
  | 114 => ⟨S_, .i1⟩
  | 115 => ⟨S128, .i1⟩
  | 116 => ⟨S1x1x128x1, .i1⟩
  | 117 => ⟨S_, .f32⟩
  | 118 => ⟨S2x4x128, .f32⟩
  | 119 => ⟨S2x4x128x1, .f32⟩
  | 120 => ⟨S_, .f32⟩
  | 121 => ⟨S_, .f32⟩
  | 122 => ⟨S2x4x128x1, .i1⟩
  | 123 => ⟨S2x4x128x1, .f32⟩
  | 124 => ⟨S2x4x128x1, .f32⟩
  | 125 => ⟨S2x4x128x1024, .f32⟩
  | 126 => ⟨S2x4x128x1024, .f32⟩
  | 127 => ⟨S1x1x128x1, .i1⟩
  | _ => ⟨S2x128x512, .f32⟩

abbrev hbmTy0_1 (i : Nat) : BufTy := match i % 128 with
  | 0 => ⟨S_, .f32⟩
  | 1 => ⟨S_, .f32⟩
  | 2 => ⟨S2x4x128x1024, .i1⟩
  | 3 => ⟨S2x4x128x1024, .f32⟩
  | 4 => ⟨S2x4x128x1024, .f32⟩
  | 5 => ⟨S2x4x64x128, .f32⟩
  | 6 => ⟨S2x128x4x64, .f32⟩
  | 7 => ⟨S2x128x256, .f32⟩
  | 8 => ⟨S2x128x512, .f32⟩
  | _ => ⟨S2x128x512, .f32⟩

abbrev hbmTy (i : Nat) : BufTy := match i / 128 with
  | 0 => hbmTy0_0 i
  | 1 => hbmTy0_1 i
  | _ => ⟨S2x128x512, .f32⟩

abbrev bufTy : (tb : Table) → Fin (tcTables nBuf tb) → BufTy
  | .hbm, ⟨i, _⟩ => hbmTy i
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Protocol.lean ====
/-
# The exchange's protocol

Eight devices. The kernel keeps two running arrays (one per batch entry, `β : Fin 2`), and adds to each, in three
exchange steps (`s : Fin 3`), the array of a partner device. The partners of device `c` are `peer 0 c`, `peer 1 c` and
`peer 2 c`; array 0 takes them in the order 0, 1, 2 and array 1 in the order 1, 2, 0.

This file names the cells of the protocol (the barrier cell, and per array and step one send cell and one receive
cell), states what each payment to a cell hands over, in which order a device owes its payments, and why no wait can
be stuck.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds.Family
public import Idealize.ShloMosaic.Lib.Tactic

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resources: the pipeline's rounds, and the exchange's rounds with duty names `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The partners -/

/-- The number a device's number is combined with (bit by bit) to give its `k`-th partner's. -/
def mask : Fin 3 → ℕ := fun | 0 => 1 | 1 => 3 | 2 => 4

set_option backward.proofsInPublic true in
/-- The `k`-th partner of device `c`. -/
def peer (k : Fin 3) (c : Dev nD) : Dev nD := ⟨(c.val ^^^ mask k) % 8, Nat.mod_lt _ (by decide)⟩

/-- Partnership is mutual. -/
theorem peer_peer (k : Fin 3) (c : Dev nD) : peer k (peer k c) = c := by revert k c; decide

/-- The partner array `β` turns to at step `s`. -/
def ord (β : Fin 2) (s : Fin 3) : Fin 3 := if β = 0 then s else s + 1

/-- The step at which array 1 turns to partner `k`. -/
def stepB (k : Fin 3) : Fin 3 := k + 2

theorem ord_zero (k : Fin 3) : ord 0 k = k := rfl
theorem ord_stepB (k : Fin 3) : ord 1 (stepB k) = k := by revert k; decide

/-- The device numbers the kernel computes are the partners'. -/
theorem dev1_eq (c : Dev nD) : (⟨k0_dev1 c, k0_dev1_lt c⟩ : Dev nD) = peer 0 c := by revert c; decide
theorem dev2_eq (c : Dev nD) : (⟨k0_dev2 c, k0_dev2_lt c⟩ : Dev nD) = peer 1 c := by revert c; decide
theorem dev3_eq (c : Dev nD) : (⟨k0_dev3 c, k0_dev3_lt c⟩ : Dev nD) = peer 2 c := by revert c; decide
theorem dev4_eq (c : Dev nD) : (⟨k0_dev4 c, k0_dev4_lt c⟩ : Dev nD) = peer (ord 0 0) c := by revert c; decide
theorem dev5_eq (c : Dev nD) : (⟨k0_dev5 c, k0_dev5_lt c⟩ : Dev nD) = peer (ord 1 0) c := by revert c; decide
theorem dev6_eq (c : Dev nD) : (⟨k0_dev6 c, k0_dev6_lt c⟩ : Dev nD) = peer (ord 0 1) c := by revert c; decide
theorem dev7_eq (c : Dev nD) : (⟨k0_dev7 c, k0_dev7_lt c⟩ : Dev nD) = peer (ord 1 1) c := by revert c; decide
theorem dev8_eq (c : Dev nD) : (⟨k0_dev8 c, k0_dev8_lt c⟩ : Dev nD) = peer (ord 0 2) c := by revert c; decide
theorem dev9_eq (c : Dev nD) : (⟨k0_dev9 c, k0_dev9_lt c⟩ : Dev nD) = peer (ord 1 2) c := by revert c; decide

/-! ## The buffers -/

/-- The running array `β`. -/
def accM : Fin 2 → Memref sig .tc .vmem S136x256 .bf16
  | 0 => Memref.whole cc0_scratch0
  | 1 => Memref.whole cc0_scratch1

/-- The landing buffer of array `β`: three slots. -/
def landM : Fin 2 → Memref sig .tc .vmem S3x136x256 .bf16
  | 0 => Memref.whole cc0_scratch2
  | 1 => Memref.whole cc0_scratch3

/-- Slot `s` of the landing buffer, as a slab. -/
def slotRect : Fin 3 → Rect S3x136x256
  | 0 => Rect.unit (s := S3x136x256) ![0, 0, 0] S1x136x256.size inb_S3x136x256_S1x136x256_0_0_0
  | 1 => Rect.unit (s := S3x136x256) ![1, 0, 0] S1x136x256.size inb_S3x136x256_S1x136x256_1_0_0
  | 2 => Rect.unit (s := S3x136x256) ![2, 0, 0] S1x136x256.size inb_S3x136x256_S1x136x256_2_0_0

/-- Slot `s` of the landing buffer of array `β`. -/
def slotM (β : Fin 2) : Fin 3 → Memref sig .tc .vmem S136x256 .bf16
  | 0 => ((landM β).slice (Rect.unit (s := S3x136x256) ![0, 0, 0] S1x136x256.size inb_S3x136x256_S1x136x256_0_0_0) (fun _ => rfl)).squeeze S136x256 squeezes_S1x136x256_S136x256
  | 1 => ((landM β).slice (Rect.unit (s := S3x136x256) ![1, 0, 0] S1x136x256.size inb_S3x136x256_S1x136x256_1_0_0) (fun _ => rfl)).squeeze S136x256 squeezes_S1x136x256_S136x256
  | 2 => ((landM β).slice (Rect.unit (s := S3x136x256) ![2, 0, 0] S1x136x256.size inb_S3x136x256_S1x136x256_2_0_0) (fun _ => rfl)).squeeze S136x256 squeezes_S1x136x256_S136x256

/-- A slot of a landing buffer, and a semaphore of a row of three, as the kernel spells them. -/
abbrev cutSlot (M : Memref sig .tc .vmem S3x136x256 .bf16) (off : Fin 3 → ℕ) (inb : ∀ a, off a + S1x136x256.size a ≤ S3x136x256.size a) :
    Memref sig .tc .vmem S136x256 .bf16 :=
  (M.slice (Rect.unit (s := S3x136x256) off S1x136x256.size inb) (fun _ => rfl)).squeeze S136x256 squeezes_S1x136x256_S136x256
abbrev cutSem (q : DmaSems sig S3) (off : Fin 1 → ℕ) (inb : ∀ a, off a + S1.size a ≤ S3.size a) : DmaSem sig :=
  ((q.slice (Rect.unit (s := S3) off S1.size inb)).squeeze S_ squeezes_S1_S_).sem

/-! ## The cells -/

/-- The runtime's barrier semaphore. -/
abbrev barS : Sem sig := (SemArray.scalar (sig.barrier 0 rfl) : Sems sig S_).sem

/-- Number of the first transfer semaphore: the ones before it are the pipeline's. -/
def sendN (β : Fin 2) (s : Fin 3) : Fin 12 := ⟨6 * β.val + s.val, by omega⟩
def recvN (β : Fin 2) (s : Fin 3) : Fin 12 := ⟨6 * β.val + 3 + s.val, by omega⟩

/-- The `j`-th transfer semaphore: array 0's three send and three receive semaphores, then array 1's. -/
def xsem (j : Fin 12) : DmaSem sig := (⟨6 + j.val, by have := j.isLt; omega⟩ : Fin 18)

abbrev sendS (β : Fin 2) (s : Fin 3) : DmaSem sig := xsem (sendN β s)
abbrev recvS (β : Fin 2) (s : Fin 3) : DmaSem sig := xsem (recvN β s)

abbrev barCell (c : Dev nD) : GSem nD τ sig := ((c : Thread nD τ), .reg barS)
abbrev sendCell (β : Fin 2) (s : Fin 3) (c : Dev nD) : GSem nD τ sig := ((c : Thread nD τ), .dma (sendS β s))
abbrev recvCell (β : Fin 2) (s : Fin 3) (c : Dev nD) : GSem nD τ sig := ((c : Thread nD τ), .dma (recvS β s))

/-- The kernel's own semaphores, as the launch indexes them. -/
abbrev osem : Fin 12 → SemLoc sig := fun j => .dma (xsem j)
/-- All thirteen semaphores of the protocol: the barrier's, then the transfers'. -/
def csem (k : Option (Fin 12)) : SemLoc sig := match k with | none => .reg barS | some j => .dma (xsem j)
abbrev kcell (ck : Dev nD × Option (Fin 12)) : GSem nD τ sig := ((ck.1 : Thread nD τ), csem ck.2)

/-- The amount a transfer of one array pays. -/
def N : ℕ := (Memref.whole cc0_scratch0 : Memref sig .tc .vmem S136x256 .bf16).view.dmaCredit
theorem N_pos : 0 < N := View.dmaCredit_pos _ (by decide)
theorem slot_credit (β : Fin 2) (s : Fin 3) : (slotM β s).view.dmaCredit = N := by
  fin_cases β <;> fin_cases s <;> rfl
theorem acc_credit (β : Fin 2) : (accM β).view.dmaCredit = N := by
  fin_cases β <;> rfl

end Cert.KernelIdeal.Exch

end
-- ==== Proof.Contents.lean ====
/-
# What one device computes before the exchange, and after it

From a device's input blocks: the projected queries, the keys and values flattened, the mask; then, per batch entry
and head, the exponentials of the scores (keys by queries), their product with the values, and their column sums.
`part` lays the four heads' products and sums out as the kernel's running array does. `finish` turns a running array
into the output block: each head's product over its sum, times the output matrix.
-/
module

public import proofs.«01_k».proof.Proof.Gen.KernelIdeal
public import proofs.«01_k».proof.Proof.Gen.KernelIdeal.Skeleton
public import Idealize.ShloMosaic.Lib.ValueIdxCore

@[expose] public section

noncomputable section

namespace Cert.KernelIdeal.Exch

open Cert.KernelIdeal Cert.KernelIdeal.Gen
open Idealize.ShloMosaic
open Idealize.ShloMosaic.TcCoe
open Idealize.ShloMosaic.ValueIdx

variable {F : FTy → Type} [FloatOps F] [Named F]

/-- What one running array holds, as a vector. -/
abbrev Arr (F : FTy → Type) : Type := FVec F S136x256 .bf16

/-- A device's input blocks. -/
structure Ins (F : FTy → Type) where
  x : Vec F S2x128x512 .f32
  wq : Vec F S512x256 .f32
  k : Vec F S2x128x4x64 .f32
  v : Vec F S2x128x4x64 .f32
  wo : Vec F S256x512 .f32

/-- The projected queries: row `128 b + i`, lane `64 h + d`. -/
def qMat (I : Ins F) : FVec F S256x256 .bf16 := k0_pay2 I.x I.wq
/-- The device's keys, in the same layout. -/
def kMat (I : Ins F) : FVec F S256x256 .bf16 := k0_pay4 (k0_pay3 I.k)
/-- The device's values, in the same layout. -/
def vMat (I : Ins F) : FVec F S256x256 .bf16 := k0_pay5 I.v
/-- Which key (row) and query (lane) belong to the same block of 64. -/
def sameBlk : IVec S128x128 1 :=
  k0_pay9 k0_pay6 (iota .tc S128x128 32 [1] iota_S128x128_d1_w32) 64#32 k0_pay7 k0_pay8
    (Scalar.extui (Scalar.cmpi .sgt 64#32 0#32)) (Scalar.extui (Scalar.cmpi .slt 64#32 0#32))
/-- Whether device `c` has an even number: only those hold keys that the queries attend to. -/
def evenDev (c : Dev nD) : BitVec 1 := Scalar.cmpi .eq (Scalar.remsi (Scalar.remsi (Scalar.divsi (Dev.word c) 1#32) 8#32) 2#32) 0#32

theorem slices_blk (b : Fin 2) (h : Fin 4) : S256x256.Slices ![128 * b.val, 64 * h.val] S128x64 := by revert b h; decide
/-- Batch entry `b`, head `h` of a flattened array. -/
def headOf (b : Fin 2) (h : Fin 4) (v : FVec F S256x256 .bf16) : FVec F S128x64 .bf16 :=
  extractStridedSlice S128x64 ![128 * b.val, 64 * h.val] v (slices_blk b h)

/-- The weights of batch entry `b`, head `h`: exponentials of the scores where key and query share a block, of the mask
    elsewhere; zero on the devices with odd numbers. Keys down, queries across. -/
def pT (I : Ins F) (c : Dev nD) (b : Fin 2) (h : Fin 4) : FVec F S128x128 .f32 :=
  Scalar.select (evenDev c)
    (exp (select sameBlk
      (mulf (matmul dot_S128x64_S128x64_S128x128_1_1_0_0_n_n none (headOf b h (kMat I)) (headOf b h (qMat I)) (constant S128x128 .f32 0x00000000#32))
        (broadcast S128x128 (Scalar.ofBits .f32 0x3E000000#32)))
      (broadcast S128x128 (Named.named κ "mask" 0xCE6E6B28#32))))
    (broadcast S128x128 (Scalar.ofBits .f32 0x00000000#32))

/-- The weights times the values: queries down, the head's 64 lanes across. -/
def oHead (I : Ins F) (c : Dev nD) (b : Fin 2) (h : Fin 4) : FVec F S128x64 .bf16 :=
  truncf .bf16 (matmul dot_S128x128_S128x64_S128x64_0_0_1_1_n_n none (truncf .bf16 (pT I c b h) bitsLt_bf16_f32) (headOf b h (vMat I))
    (constant S128x64 .f32 0x00000000#32)) bitsLt_bf16_f32
/-- The weights' sums, one per query. -/
def lHead (I : Ins F) (c : Dev nD) (b : Fin 2) (h : Fin 4) : FVec F S1x128 .bf16 :=
  truncf .bf16 (shapeCast S1x128 (multiReduction .add [0] S128 (pT I c b h) 0x00000000#32 reduces_S128x128_S128 (.inl rfl) rfl)
    shapeCasts_S128_S1x128) bitsLt_bf16_f32
/-- A row's unused second half. -/
def zRow : FVec F S1x128 .bf16 := broadcast S1x128 (Scalar.ofBits .bf16 0x0000#16)

/-- The running array before the exchange: rows 0–127 the four heads' products side by side, row `128 + h` head `h`'s
    sums and then zeros. (The last four rows the kernel leaves alone.) -/
def part (I : Ins F) (c : Dev nD) (b : Fin 2) : Arr F := fun i =>
  let r := (i (0 : Fin 2)).val
  let l := (i (1 : Fin 2)).val
  if hr : r < 128 then oHead I c b ⟨l / 64 % 4, Nat.mod_lt _ (by decide)⟩ (ix2 ⟨r, hr⟩ ⟨l % 64, Nat.mod_lt _ (by decide)⟩)
  else if hl : l < 128 then lHead I c b ⟨(r - 128) % 4, Nat.mod_lt _ (by decide)⟩ (ix2 0 ⟨l, hl⟩)
  else zRow (ix2 0 ⟨(l - 128) % 128, Nat.mod_lt _ (by decide)⟩)

/-- Two arrays agree on the rows the kernel writes: the first 132 of the 136. -/
def Agree (v w : Arr F) : Prop := ∀ i : S136x256.Idx, (i (0 : Fin 2)).val < 132 → v i = w i

/-- The heads' products of a running array. -/
def topOf (a : Arr F) : FVec F S128x256 .bf16 := fun i =>
  a (ix2 ⟨(i (0 : Fin 2)).val, Nat.lt_trans (i (0 : Fin 2)).isLt (by decide)⟩ (i (1 : Fin 2)))
/-- Head `h`'s sums in a running array. -/
def rowOf (h : Fin 4) (a : Arr F) : FVec F S1x128 .bf16 := fun i =>
  a (ix2 ⟨128 + h.val, by omega⟩ ⟨(i (1 : Fin 2)).val, Nat.lt_trans (i (1 : Fin 2)).isLt (by decide)⟩)

theorem topOf_congr {a b : Arr F} (h : Agree a b) : topOf a = topOf b :=
  funext fun i => h _ (Nat.lt_trans (i (0 : Fin 2)).isLt (by decide))
theorem rowOf_congr {a b : Arr F} (g : Fin 4) (h : Agree a b) : rowOf g a = rowOf g b :=
  funext fun i => h _ (by show 128 + g.val < 132; omega)

/-- One batch entry of the output from its running array. -/
def finish (a : Arr F) (wo : Vec F S256x512 .f32) : FVec F S1x128x512 .f32 :=
  k0_pay55 (topOf a) (rowOf 0 a) (rowOf 1 a) (rowOf 2 a) (rowOf 3 a) wo
theorem finish_congr {a b : Arr F} (h : Agree a b) (wo) : finish a wo = finish b wo := by
  unfold finish; rw [topOf_congr h, rowOf_congr 0 h, rowOf_congr 1 h, rowOf_congr 2 h, rowOf_congr 3 h]

/-- The output block from the two running arrays. -/
def outOf (a : Fin 2 → Arr F) (wo : Vec F S256x512 .f32) : FVec F S2x128x512 .f32 := fun i =>
  finish (a (i (0 : Fin 3))) wo (ix3 0 (i (1 : Fin 3)) (i (2 : Fin 3)))

/-- The second batch entry's output is computed by the same operations. -/
theorem pay1_eq (t r0 r1 r2 r3 wo) :
    k0_pay1 (F := F) (k0_pay57 t) (k0_pay58 t r0) (k0_pay59 t r1) (k0_pay60 t r2) r3 wo = k0_pay55 t r0 r1 r2 r3 wo := rfl

end Cert.KernelIdeal.Exch

end
-- ==== Proof.Schedule.lean ====
/-
# What the protocol's payments hand over, and why no wait is stuck

`Acc A₀ β s c` is what array `β` of device `c` holds after `s` exchange steps, given what it starts from (`A₀ β c`).
A payment to a receive cell hands over a landing slot filled with the partner's array; a payment to a send cell hands
the array itself back; a payment to the barrier cell hands over the two landing slots that the receiver will fill.
-/
module

public import proofs.«01_k».proof.Proof.Protocol
public import proofs.«01_k».proof.Proof.Contents

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Contents -/

/-- The partner of step number `s`, for any number. -/
def ordN (β : Fin 2) (s : ℕ) : Fin 3 := ord β ⟨s % 3, Nat.mod_lt _ (by decide)⟩
theorem ordN_val (β : Fin 2) (s : Fin 3) : ordN β s.val = ord β s := by
  revert β s; decide

/-- What array `β` of device `c` holds after `s` steps, from the arrays `A₀`: each step adds the partner's array. -/
def Acc (A₀ : Fin 2 → Dev nD → Arr F) (β : Fin 2) : ℕ → Dev nD → Arr F
  | 0, c => A₀ β c
  | s + 1, c => addf (Acc A₀ β s c) (Acc A₀ β s (peer (ordN β s) c))

variable (A₀ : Fin 2 → Dev nD → Arr F)

/-- Array `β` of device `c`, held, whatever it holds. -/
def accPts (β : Fin 2) (c : Dev nD) (f : Buf (Elt F) ((accM β).view.loc (c : Thread nD τ))) : sProp 𝕄 :=
  (accM β).view.loc (c : Thread nD τ) ↦[(accM β).view.set]{fullShare} f
/-- Landing slot `s` for array `β` on device `c`, held. -/
def slotPts (β : Fin 2) (s : Fin 3) (c : Dev nD) (f : Buf (Elt F) ((slotM β s).view.loc (c : Thread nD τ))) : sProp 𝕄 :=
  (slotM β s).view.loc (c : Thread nD τ) ↦[(slotM β s).view.set]{fullShare} f

/-- Array `β` of device `c` holds its contents of step `s`. -/
def accAt (β : Fin 2) (s : ℕ) (c : Dev nD) : sProp 𝕄 :=
  iprop(∃ f, ⌜Agree ((accM β).view.read (Elt F) f) (Acc A₀ β s c)⌝ ∗ accPts β c f)
/-- The landing slot of step `s` holds the partner's contents of that step. -/
def slotAt (β : Fin 2) (s : Fin 3) (c : Dev nD) : sProp 𝕄 :=
  iprop(∃ f, ⌜Agree ((slotM β s).view.read (Elt F) f) (Acc A₀ β s.val (peer (ord β s) c))⌝ ∗ slotPts β s c f)
/-- The landing slot of step `s`, whatever it holds. -/
def slotAny (β : Fin 2) (s : Fin 3) (c : Dev nD) : sProp 𝕄 := iprop(∃ f, slotPts (F := F) β s c f)

omit [FloatOps F] [Named F] in
instance accPts_storable (β : Fin 2) (c : Dev nD) (f) : BI.Storable (upEmb : UEmb _ 𝕄) (accPts (F := F) β c f) := by
  unfold accPts; infer_instance
omit [FloatOps F] [Named F] in
instance slotPts_storable (β : Fin 2) (s : Fin 3) (c : Dev nD) (f) : BI.Storable (upEmb : UEmb _ 𝕄) (slotPts (F := F) β s c f) := by
  unfold slotPts; infer_instance
omit [Named F] in
set_option synthInstance.maxHeartbeats 400000 in
instance accAt_storable (β : Fin 2) (s : ℕ) (c : Dev nD) : BI.Storable (upEmb : UEmb _ 𝕄) (accAt A₀ β s c) := by
  unfold accAt; infer_instance
omit [Named F] in
set_option synthInstance.maxHeartbeats 400000 in
instance slotAt_storable (β : Fin 2) (s : Fin 3) (c : Dev nD) : BI.Storable (upEmb : UEmb _ 𝕄) (slotAt A₀ β s c) := by
  unfold slotAt; infer_instance
omit [FloatOps F] [Named F] in
instance slotAny_storable (β : Fin 2) (s : Fin 3) (c : Dev nD) : BI.Storable (upEmb : UEmb _ 𝕄) (slotAny (F := F) β s c) := by
  unfold slotAny; infer_instance

/-! ## The schedule -/

/-- Partner `k` signals the barrier of `c` and with it hands `c` the two slots of its own that `c` will fill. -/
def barPay (c : Dev nD) (k : Fin 3) : sProp 𝕄 :=
  iprop(slotAny (F := F) 0 k (peer k c) ∗ slotAny (F := F) 1 (stepB k) (peer k c))

/-- What the `j`-th transfer semaphore of `c` is paid with. -/
def xferPay (c : Dev nD) (j : Fin 12) : sProp 𝕄 := match j with
  | 0 => accAt A₀ 0 0 c | 1 => accAt A₀ 0 1 c | 2 => accAt A₀ 0 2 c
  | 3 => slotAt A₀ 0 0 c | 4 => slotAt A₀ 0 1 c | 5 => slotAt A₀ 0 2 c
  | 6 => accAt A₀ 1 0 c | 7 => accAt A₀ 1 1 c | 8 => accAt A₀ 1 2 c
  | 9 => slotAt A₀ 1 0 c | 10 => slotAt A₀ 1 1 c | 11 => slotAt A₀ 1 2 c

/-- Which transfer semaphore a DMA semaphore is (those of the pipeline give 0, and are never asked). -/
def jOf (q : DmaSem sig) : Fin 12 := ⟨(q : Fin 18).val - 6, by have h : (q : Fin 18).val < 18 := Fin.isLt (n := 18) q; omega⟩
theorem jOf_xsem (j : Fin 12) : jOf (xsem j) = j := by revert j; decide

/-- One round: a barrier cell has the three duties of the three partners, one unit each; a transfer cell has one duty, of the array's
    amount. -/
def exch : Rounds.Schedule (GSem nD τ sig) (Fin 3) 𝕄 where
  duties g r := if r = 0 ∧ g.1.2 = .tc then
      (match g.2 with | .reg _ => Finset.univ | .dma q => if 6 ≤ (q : Fin 18).val then {0} else ∅) else ∅
  unitless _ := False
  amount g _ _ := match g.2 with | .reg _ => 1 | .dma _ => N
  payload g _ d := match g.2 with | .reg _ => barPay g.1.1 d | .dma q => xferPay A₀ g.1.1 (jOf q)
  amount_pos g _ _ _ := by
    cases g.2
    · exact Nat.one_pos
    · exact N_pos

omit [Named F] in
instance xferPay_storable (c : Dev nD) (j : Fin 12) : BI.Storable (upEmb : UEmb _ 𝕄) (xferPay A₀ c j) := by
  fin_cases j <;> unfold xferPay <;> dsimp only <;> infer_instance
omit [FloatOps F] [Named F] in
instance barPay_storable (c : Dev nD) (k : Fin 3) : BI.Storable (upEmb : UEmb _ 𝕄) (barPay (F := F) c k) := by
  unfold barPay; infer_instance

omit [Named F] in
instance exch_payload_storable (g : GSem nD τ sig) (r : ℕ) (d : Fin 3) :
    BI.Storable (upEmb : UEmb _ 𝕄) ((exch (F := F) A₀).payload g r d) := by
  show BI.Storable upEmb (match g.2 with | .reg _ => barPay g.1.1 d | .dma q => xferPay A₀ g.1.1 (jOf q))
  cases g.2 <;> dsimp only <;> infer_instance

section Sched
variable (c : Dev nD) (j : Fin 12) (β : Fin 2) (s : Fin 3)

omit [Named F]

theorem duties_bar : (exch (F := F) A₀).duties (barCell c) 0 = Finset.univ := by dsimp only [exch]; exact if_pos ⟨rfl, rfl⟩
theorem duties_x : (exch (F := F) A₀).duties ((c : Thread nD τ), .dma (xsem j)) 0 = {0} := by
  dsimp only [exch]; rw [if_pos ⟨rfl, rfl⟩, if_pos (by simp [xsem])]
theorem duties_later (g : GSem nD τ sig) : ∀ r, 1 ≤ r → (exch (F := F) A₀).duties g r = ∅ :=
  fun r hr => by dsimp only [exch]; rw [if_neg fun h => by omega]
theorem amount_bar (d : Fin 3) : (exch (F := F) A₀).amount (barCell c) 0 d = 1 := rfl
theorem amount_x (d : Fin 3) : (exch (F := F) A₀).amount ((c : Thread nD τ), .dma (xsem j)) 0 d = N := rfl
theorem expect_bar : (exch (F := F) A₀).expect (barCell c) 0 = 3 := by
  unfold Schedule.expect Schedule.amountOf
  rw [duties_bar, Finset.sum_congr rfl fun d _ => amount_bar A₀ c d]; decide
theorem expect_x : (exch (F := F) A₀).expect ((c : Thread nD τ), .dma (xsem j)) 0 = N := by
  unfold Schedule.expect Schedule.amountOf; rw [duties_x, Finset.sum_singleton, amount_x]
theorem payload_bar (k : Fin 3) : (exch (F := F) A₀).payload (barCell c) 0 k = barPay c k := rfl
theorem payload_x (d : Fin 3) : (exch (F := F) A₀).payload ((c : Thread nD τ), .dma (xsem j)) 0 d = xferPay A₀ c j := by
  dsimp only [exch]; rw [jOf_xsem]
theorem xferPay_send : xferPay A₀ c (sendN β s) = accAt A₀ β s.val c := by
  fin_cases β <;> fin_cases s <;> rfl
theorem xferPay_recv : xferPay A₀ c (recvN β s) = slotAt A₀ β s c := by
  fin_cases β <;> fin_cases s <;> rfl

/-- The whole of the barrier's round: all three partners' slots. -/
theorem rest_bar : bigSep ((exch (F := F) A₀).duties (barCell c) 0 \ ∅) (fun d => (exch (F := F) A₀).payload (barCell c) 0 d)
    = iprop(barPay (F := F) c 0 ∗ barPay (F := F) c 1 ∗ barPay (F := F) c 2) := by
  rw [Finset.sdiff_empty, duties_bar, bigSep_univ_eq_bigSepL [0, 1, 2] (by decide) (by decide), bigSepL_cons_cons, bigSepL_cons_cons,
    bigSepL_singleton]
  rfl
theorem rest_x : bigSep ((exch (F := F) A₀).duties ((c : Thread nD τ), .dma (xsem j)) 0 \ ∅)
    (fun d => (exch (F := F) A₀).payload ((c : Thread nD τ), .dma (xsem j)) 0 d) = xferPay A₀ c j := by
  rw [Finset.sdiff_empty, duties_x, bigSep_singleton, payload_x]

end Sched

/-! ## What a device owes, and the levels -/

/-- The transfers in program order: array 0 and array 1 alternate. -/
def stepOf (r : ℕ) : Fin 2 × Fin 3 := (⟨r % 2, by omega⟩, ⟨r / 2 % 3, by omega⟩)

/-- What the `r`-th transfer of `c` pays: the partner's receive cell, the array's amount. -/
def pay (c : Dev nD) (r : ℕ) : CellTallies nD τ sig Unit :=
  tallyAt (recvCell (stepOf r).1 (stepOf r).2 (peer (ord (stepOf r).1 (stepOf r).2) c)) () N

/-- What `c` still owes with `n` transfers to go. -/
def owed (c : Dev nD) : ℕ → CellTallies nD τ sig Unit
  | 0 => 0
  | n + 1 => owed c n + pay c (5 - n)

/-- What `c` owes at launch: its six transfers and one unit to each partner's barrier. -/
def O₀ (c : Dev nD) : CellTallies nD τ sig Unit :=
  ((owed c 6 + tallyAt (barCell (peer 2 c)) () 1) + tallyAt (barCell (peer 1 c)) () 1) + tallyAt (barCell (peer 0 c)) () 1

def L (g : GSem nD τ sig) : Finset Unit := if g.1.2 = .tc then {()} else ∅

/-- The level of a transfer semaphore: a receive semaphore's is 2 and more, in program order; a send semaphore's is 0. -/
def lvX (j : Fin 12) : ℕ := match j with
  | 3 => 2 | 9 => 3 | 4 => 4 | 10 => 5 | 5 => 6 | 11 => 7 | _ => 0
/-- Levels: the barrier 1, the receive cells above it in program order, everything else 0. -/
def lv (g : GSem nD τ sig) (_ : Unit) : ℕ := match g.2 with
  | .reg _ => 1
  | .dma q => if 6 ≤ (q : Fin 18).val then lvX (jOf q) else 0

theorem L_of_ne (g : GSem nD τ sig) (h : g.1.2 ≠ .tc) : L g = ∅ := if_neg h
theorem L_tc (c : Dev nD) (sm : SemLoc sig) : L ((c : Thread nD τ), sm) = {()} := if_pos rfl
theorem lv_x (c : Dev nD) (j : Fin 12) : lv ((c : Thread nD τ), .dma (xsem j)) () = lvX j := by
  show (if 6 ≤ ((xsem j : DmaSem sig) : Fin 18).val then lvX (jOf (xsem j)) else 0) = lvX j
  rw [jOf_xsem, if_pos (by simp [xsem])]

theorem pos_tally {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h
theorem pos_add {g : GSem nD τ sig} {u : Unit} {O O' : CellTallies nD τ sig Unit} (h : 0 < (O + O') g u) : 0 < O g u ∨ 0 < O' g u := by
  rw [Pi.add_apply, Finsupp.add_apply] at h; omega

theorem pay_lv (c : Dev nD) (r : ℕ) (hr : r < 6) {g : GSem nD τ sig} {u : Unit} (h : 0 < pay c r g u) : g.1.2 = .tc ∧ lv g u = 2 + r := by
  have h' := pos_tally h
  subst h'
  refine ⟨rfl, ?_⟩
  rw [show u = () from rfl, lv_x]
  clear h
  interval_cases r <;> rfl

/-- With `n` transfers to go, what is owed sits on TensorCore cells at levels `8 - n` and up. -/
theorem owed_lv (c : Dev nD) (n : ℕ) (hn : n ≤ 6) {g : GSem nD τ sig} {u : Unit} (h : 0 < owed c n g u) : g.1.2 = .tc ∧ 8 - n ≤ lv g u := by
  induction n with
  | zero => exact absurd h (Nat.lt_irrefl 0)
  | succ n ih =>
    rcases pos_add h with h | h
    · have := ih (by omega) h; exact ⟨this.1, by omega⟩
    · have := pay_lv c (5 - n) (by omega) h; exact ⟨this.1, by omega⟩

theorem O₀_lv (c : Dev nD) {g : GSem nD τ sig} {u : Unit} (h : 0 < O₀ c g u) : g.1.2 = .tc ∧ 1 ≤ lv g u := by
  rcases pos_add h with h | h
  · rcases pos_add h with h | h
    · rcases pos_add h with h | h
      · have := owed_lv c 6 (by omega) h; exact ⟨this.1, by omega⟩
      · rw [pos_tally h]; exact ⟨rfl, Nat.le_refl 1⟩
    · rw [pos_tally h]; exact ⟨rfl, Nat.le_refl 1⟩
  · rw [pos_tally h]; exact ⟨rfl, Nat.le_refl 1⟩

omit [FloatOps F] [Named F] in
/-- A device may wait at a cell whose level is below that of everything it owes. -/
theorem mayWait (c : Dev nD) (sm : SemLoc sig) (O : CellTallies nD τ sig Unit)
    (hO : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp])
    (fun g u hg => (hO g u hg).2)

end Cert.KernelIdeal.Exch

end
-- ==== Proof.Steps.lean ====
/-
# The exchange, one rule per step

The rules a device's run uses for its signals, its transfers and its waits, each from what the device holds before to
what it holds after. The invariants of all the cells and the marks that their first round is reached are `recs`.
-/
module

public import proofs.«01_k».proof.Proof.Schedule

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

variable (A₀ : Fin 2 → Dev nD → Arr F) (K : Dev nD × Option (Fin 12) → ℕ)

/-- Every cell's invariant, under the names `K`, and every cell's mark that round 0 is reached. -/
def recs : sProp 𝕄 :=
  iprop((bigSep Finset.univ fun ck : Dev nD × Option (Fin 12) => cellInv ER (exch (F := F) A₀) (K ck) (kcell ck))
    ∗ bigSep Finset.univ fun ck : Dev nD × Option (Fin 12) => reached ER (kcell ck) 0)

omit [Named F] in
instance recs_persistent : BI.Persistent (recs A₀ K) := by unfold recs; infer_instance

omit [Named F] in
theorem inv_at' (ck : Dev nD × Option (Fin 12)) :
    (bigSep Finset.univ fun ck : Dev nD × Option (Fin 12) => (cellInv ER (exch (F := F) A₀) (K ck) (kcell ck) : sProp 𝕄))
      ⊢ cellInv ER (exch (F := F) A₀) (K ck) (kcell ck) := bigSep_elim (Finset.mem_univ ck)
omit [FloatOps F] [Named F] in
theorem reached_at' (ck : Dev nD × Option (Fin 12)) :
    (bigSep Finset.univ fun ck : Dev nD × Option (Fin 12) => (reached ER (kcell ck) 0 : sProp 𝕄)) ⊢ reached ER (kcell ck) 0 :=
  bigSep_elim (Finset.mem_univ ck)
omit [Named F] in
theorem inv_at (ck : Dev nD × Option (Fin 12)) : recs A₀ K ⊢ cellInv ER (exch (F := F) A₀) (K ck) (kcell ck) := by
  unfold recs
  iintro ⟨H, -⟩
  iapply (inv_at' A₀ K ck); iexact H
omit [Named F] in
theorem reached_at (ck : Dev nD × Option (Fin 12)) : recs A₀ K ⊢ reached ER (kcell ck) 0 := by
  unfold recs
  iintro ⟨-, H⟩
  iapply (reached_at' (F := F) ck); iexact H

/-- What a device owes, whatever it has waited for. -/
def owing (c : Dev nD) (O : CellTallies nD τ sig Unit) : sProp 𝕄 := iprop(∃ W, owes (c : Thread nD τ) O W)

/-- With `n` transfers to go, what is owed sits above any level below `8 - n`. -/
theorem owed_gt (c : Dev nD) (n l : ℕ) (hn : n ≤ 6) (hl : l < 8 - n) :
    ∀ g u, 0 < owed c n g u → g.1.2 = .tc ∧ l < lv g u :=
  fun g u h => ⟨(owed_lv c n hn h).1, Nat.lt_of_lt_of_le hl (owed_lv c n hn h).2⟩

variable (c : Dev nD)

/-- The signal to partner `k`'s barrier: the device hands over two of its own slots. -/
theorem step_signal (k : Fin 3) (n : Dev nD) (hn : n = peer k c) (O : CellTallies nD τ sig Unit) {α : Type} {k' : PUnit → Prog (TpuEff nD τ sig (Elt F) Λ₀ .tc) α}
    {m : ℕ} (hm : 1 = m) {Q : α → sProp 𝕄} :
    iprop(recs A₀ K ∗ owing (F := F) c (O + tallyAt (barCell (peer k c)) () 1) ∗ dutyTok ER (barCell (peer k c)) 0 k
        ∗ slotAny (F := F) 0 k c ∗ slotAny (F := F) 1 (stepB k) c)
      ⊢ iprop((owing (F := F) c O -∗ wp frame (wpE (defs₀ (F := F)) 𝒱₀ (c : Thread nD τ) none) Set.univ (k' ⟨⟩) Q)
          -∗ wp frame (wpE (defs₀ (F := F)) 𝒱₀ (c : Thread nD τ) none) Set.univ (.op (.semSignal (Dev.tc n) barS m) k') Q) := by
  subst hn; subst hm
  unfold owing
  iintro ⟨#Hr, ⟨%W, HO⟩, Ht, H0, H1⟩ Hk
  iapply (Rounds.wp_signal 𝒱₀ ER (exch (F := F) A₀) (c : Thread nD τ) none (dst := (peer k c : Thread nD τ)) (κ := K (peer k c, none)) (r := 0)
      (d := k) (by rw [duties_bar]; exact Finset.mem_univ _) (amount_bar A₀ (peer k c) k) () O rfl (W := W))
    $$ [HO Ht H0 H1]
  · isplitr; · iapply (inv_at A₀ K (peer k c, none)); iexact Hr
    isplitl [HO]; · iexact HO
    isplitl [Ht]; · iexact Ht
    isplitl [H0 H1]
    · rw [payload_bar]; unfold barPay; rw [peer_peer]
      isplitl [H0]; · iexact H0
      iexact H1
    · iapply (reached_at A₀ K (peer k c, none)); iexact Hr
  iintro HO
  iapply Hk
  iexists W; iexact HO

/-- The wait at its own barrier: the three partners' slots that the device will fill. -/
theorem step_bar {O : CellTallies nD τ sig Unit} (hO : ∀ g u, 0 < O g u → g.1.2 = .tc ∧ 1 < lv g u)
    {α : Type} {k' : PUnit → Prog (TpuEff nD τ sig (Elt F) Λ₀ .tc) α} {m : ℕ} (hm : 3 = m) {Q : α → sProp 𝕄} :
    iprop(recs A₀ K ∗ levAts L lv ∗ owing (F := F) c O ∗ cred (tallyAt (barCell c) () 3) ∗ atPos ER (barCell c) 0 ∅ 0)
      ⊢ iprop(((owing (F := F) c O ∗ atPos ER (barCell c) 1 ∅ 0 ∗ barPay (F := F) c 0 ∗ barPay (F := F) c 1 ∗ barPay (F := F) c 2)
            -∗ wp frame (wpE (defs₀ (F := F)) 𝒱₀ (c : Thread nD τ) none) Set.univ (k' ⟨⟩) Q)
          -∗ wp frame (wpE (defs₀ (F := F)) 𝒱₀ (c : Thread nD τ) none) Set.univ (.op (.semWait barS m) k') Q) := by
  subst hm
  unfold owing
  iintro ⟨#Hr, #Hlev, ⟨%W, HO⟩, Hc, Hat⟩ Hk
  iapply (Rounds.wp_wait_rest_token 𝒱₀ ER (exch (F := F) A₀) (c : Thread nD τ) none (κ := K (c, none))
      (wpE_semWait_eq 𝒱₀ (c : Thread nD τ) none Set.univ) (Set.mem_univ _) () (O := O) (W := W) (R := 0) (m := 0) (T := ∅)
      (by rw [expect_bar])) $$ [Hc HO Hat]
  · isplitr; · iapply (inv_at A₀ K (c, none)); iexact Hr
    isplitl [Hc]; · iexact Hc
    isplitl [HO]; · iexact HO
    isplitr; · iapply (mayWait c (.reg barS) O hO); iexact Hlev
    iexact Hat
  iintro ⟨HO, Hat, -, Hpay⟩
  ihave Hp := (Entails.of_eq (rest_bar A₀ c)) $$ Hpay
  iapply Hk
  isplitl [HO]; · iexists _; iexact HO
  isplitl [Hat]; · iexact Hat
  iexact Hp

/-- The transfer of step `s` of array `β`: the array and the partner's slot go; the partner will find the array's contents. -/
theorem step_send (β : Fin 2) (s : Fin 3) (n : Dev nD) (hn : n = peer (ord β s) c) (O : CellTallies nD τ sig Unit)
    {src dst : Memref sig .tc .vmem S136x256 .bf16} (hsrcE : src = accM β) (hdstE : dst = slotM β s)
    {qS qR : DmaSem sig} (hqS : qS = sendS β s) (hqR : qR = recvS β s)
    {hsc : (dst : Memref sig (Dev.tc n : Thread nD τ).2.kind .vmem S136x256 .bf16).view.ref.isScScratch = false}
    {hsrc : src.view.WordExact} {hdst : dst.view.WordExact}
    {hsem : DmaTarget.Typed .vmem (.dma qR) (.remote (Dev.tc n : Thread nD τ) dst (.dma qS) hsc)}
    {α : Type} {k' : PUnit → Prog (TpuEff nD τ sig (Elt F) Λ₀ .tc) α} {Q : α → sProp 𝕄} :
    iprop(recs A₀ K ∗ owing (F := F) c (O + tallyAt (recvCell β s (peer (ord β s) c)) () N)
        ∗ accAt A₀ β s.val c ∗ slotAny (F := F) β s (peer (ord β s) c)
        ∗ dutyTok ER (sendCell β s c) 0 0 ∗ dutyTok ER (recvCell β s (peer (ord β s) c)) 0 0)
      ⊢ iprop(((owing (F := F) c O ∗ cred (tallyAt (sendCell β s c) () N))
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma src (.remote (Dev.tc n : Thread nD τ) dst (.dma qS) hsc) (.dma qR) hsrc hdst hsem) k') Q) := by
  subst hn hsrcE hdstE hqS hqR
  unfold owing
  iintro ⟨#Hr, ⟨%W, HO⟩, Ha, Hs, HtS, HtR⟩ Hk
  unfold accAt slotAny
  icases Ha with ⟨%fs, %hfs, Ha⟩
  icases Hs with ⟨%fd, Hs⟩
  unfold accPts slotPts
  iapply (Rounds.wp_send_pointsTo 𝒱₀ ER (exch (F := F) A₀) (c : Thread nD τ) none (κ₁ := K (c, some (sendN β s)))
      (κ₂ := K (peer (ord β s) c, some (recvN β s))) (fs := fs) (q := fullShare) (sS := .dma (sendS β s)) (sem := .dma (recvS β s))
      (r₁ := 0) (r₂ := 0) (d₁ := 0) (d₂ := 0) (fd := fd)
      (by rw [duties_x]; exact Finset.mem_singleton_self _) (by rw [duties_x]; exact Finset.mem_singleton_self _)
      () () N (slot_credit β s) (amount_x A₀ c (sendN β s) 0) (amount_x A₀ (peer (ord β s) c) (recvN β s) 0) O rfl (W := W)
      (by rw [payload_x, xferPay_send]; unfold accAt accPts
          iintro H; iexists fs; isplitr; · ipureintro; exact hfs
          iexact H)
      (by rw [payload_x, xferPay_recv]; unfold slotAt slotPts
          iintro H; iexists _; isplitr
          rotate_left
          · iexact H
          · ipureintro; rw [View.read_write_univ, peer_peer]; exact hfs)) $$ [Ha Hs HO HtS HtR]
  · isplitr; · iapply (inv_at A₀ K (c, some (sendN β s))); iexact Hr
    isplitr; · iapply (inv_at A₀ K (peer (ord β s) c, some (recvN β s))); iexact Hr
    isplitl [Ha]; · iexact Ha
    isplitl [Hs]; · iexact Hs
    isplitl [HO]; · iexact HO
    isplitl [HtS]; · iexact HtS
    isplitr; · iapply (reached_at A₀ K (c, some (sendN β s))); iexact Hr
    isplitl [HtR]; · iexact HtR
    iapply (reached_at A₀ K (peer (ord β s) c, some (recvN β s))); iexact Hr
  iintro ⟨HcS, HO⟩
  iapply Hk
  isplitl [HO]; · iexists W; iexact HO
  iexact HcS

/-- The wait at the device's own `j`-th transfer semaphore: what it was paid with. -/
theorem step_wait (j : Fin 12) {O : CellTallies nD τ sig Unit} (hO : ∀ g u, 0 < O g u → g.1.2 = .tc ∧ lvX j < lv g u)
    {q : DmaSem sig} (hq : q = xsem j) {src dst : Memref sig .tc .vmem S136x256 .bf16} (hN : dst.view.dmaCredit = N)
    {hsrc : src.view.WordExact} {hdst : dst.view.WordExact}
    {α : Type} {k' : PUnit → Prog (TpuEff nD τ sig (Elt F) Λ₀ .tc) α} {Q : α → sProp 𝕄} :
    iprop(recs A₀ K ∗ levAts L lv ∗ owing (F := F) c O ∗ cred (tallyAt ((c : Thread nD τ), .dma (xsem j)) () N)
        ∗ atPos ER ((c : Thread nD τ), .dma (xsem j)) 0 ∅ 0)
      ⊢ iprop(((owing (F := F) c O ∗ atPos ER ((c : Thread nD τ), .dma (xsem j)) 1 ∅ 0 ∗ xferPay A₀ c j)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 q src dst hsrc hdst) k') Q) := by
  subst hq
  unfold owing
  iintro ⟨#Hr, #Hlev, ⟨%W, HO⟩, Hc, Hat⟩ Hk
  rw [← hN]
  iapply (Rounds.wp_wait_rest_token 𝒱₀ ER (exch (F := F) A₀) (c : Thread nD τ) none (κ := K (c, some j))
      (wpE_waitDma2_eq 𝒱₀ (c : Thread nD τ) none Set.univ) (Set.mem_univ _) () (O := O) (W := W) (R := 0) (m := 0) (T := ∅)
      (by rw [expect_x, hN, Nat.zero_add])) $$ [Hc HO Hat]
  · isplitr; · iapply (inv_at A₀ K (c, some j)); iexact Hr
    isplitl [Hc]; · iexact Hc
    isplitl [HO]; · iexact HO
    isplitr; · iapply (mayWait c (.dma (xsem j)) O (by rw [lv_x]; exact hO)); iexact Hlev
    iexact Hat
  iintro ⟨HO, Hat, -, Hpay⟩
  ihave Hp := (Entails.of_eq (rest_x A₀ c j)) $$ Hpay
  iapply Hk
  isplitl [HO]; · iexists _; iexact HO
  isplitl [Hat]; · iexact Hat
  iexact Hp

/-- The wait for the device's own transfer of step `s` of array `β` to be read: the array back. -/
theorem step_wait_send (β : Fin 2) (s : Fin 3) {O : CellTallies nD τ sig Unit} (hO : ∀ g u, 0 < O g u → g.1.2 = .tc ∧ lvX (sendN β s) < lv g u)
    {q : DmaSem sig} (hq : q = sendS β s) {src dst : Memref sig .tc .vmem S136x256 .bf16} (hN : dst.view.dmaCredit = N)
    {hsrc : src.view.WordExact} {hdst : dst.view.WordExact}
    {α : Type} {k' : PUnit → Prog (TpuEff nD τ sig (Elt F) Λ₀ .tc) α} {Q : α → sProp 𝕄} :
    iprop(recs A₀ K ∗ levAts L lv ∗ owing (F := F) c O ∗ cred (tallyAt (sendCell β s c) () N) ∗ atPos ER (kcell (c, some (sendN β s))) 0 ∅ 0)
      ⊢ iprop(((owing (F := F) c O ∗ atPos ER (kcell (c, some (sendN β s))) 1 ∅ 0 ∗ accAt A₀ β s.val c)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 q src dst hsrc hdst) k') Q) := by
  rw [← xferPay_send]
  exact step_wait A₀ K c (sendN β s) hO hq hN

/-- The wait for the partner's array of step `s` of array `β`: the landing slot filled with it. -/
theorem step_wait_recv (β : Fin 2) (s : Fin 3) {O : CellTallies nD τ sig Unit} (hO : ∀ g u, 0 < O g u → g.1.2 = .tc ∧ lvX (recvN β s) < lv g u)
    {q : DmaSem sig} (hq : q = recvS β s) {src dst : Memref sig .tc .vmem S136x256 .bf16} (hN : dst.view.dmaCredit = N)
    {hsrc : src.view.WordExact} {hdst : dst.view.WordExact}
    {α : Type} {k' : PUnit → Prog (TpuEff nD τ sig (Elt F) Λ₀ .tc) α} {Q : α → sProp 𝕄} :
    iprop(recs A₀ K ∗ levAts L lv ∗ owing (F := F) c O ∗ cred (tallyAt (recvCell β s c) () N) ∗ atPos ER (kcell (c, some (recvN β s))) 0 ∅ 0)
      ⊢ iprop(((owing (F := F) c O ∗ atPos ER (kcell (c, some (recvN β s))) 1 ∅ 0 ∗ slotAt A₀ β s c)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 q src dst hsrc hdst) k') Q) := by
  rw [← xferPay_recv]
  exact step_wait A₀ K c (recvN β s) hO hq hN

end Cert.KernelIdeal.Exch

end
-- ==== Proof.Stores.lean ====
/-
# What the four heads' stores leave in a running array

A head stores three pieces: its product (128 rows, 64 lanes), and, in a pair of rows that two heads share, its sums in
the first 128 lanes and zeros in the others. The second head of a pair first reads the pair back, to keep the first
one's row. Here: once the stores of `h` heads have left an array `W` on the region those heads fill, the stores of the
next head extend this to its region; after four heads the array is `W` on its first 132 rows.
-/
module

public import proofs.«01_k».proof.Proof.Contents
public import Idealize.ShloMosaic.Lib.WritesUnit
public import Idealize.ShloMosaic.Lib.Exec.Geometry
public import Idealize.ShloMosaic.Lib.Pointwise.ShapeOpsCore
public import Idealize.ShloMosaic.Lib.Pointwise.Reshape

@[expose] public section

noncomputable section

namespace Cert.KernelIdeal.Exch

open Cert.KernelIdeal Cert.KernelIdeal.Gen
open Idealize.ShloMosaic
open Idealize.ShloMosaic.TcCoe
open Idealize.ShloMosaic.ValueIdx

variable {F : FTy → Type} [FloatOps F] [Named F]

/-- The elements the first `h` heads fill. -/
def Filled (h : ℕ) (y : S136x256.Idx) : Prop :=
  ((y (0 : Fin 2)).val < 128 ∧ (y (1 : Fin 2)).val < 64 * h) ∨ (128 ≤ (y (0 : Fin 2)).val ∧ (y (0 : Fin 2)).val < 128 + h)

/-- The stores `L` leave `W` on what the first `h` heads fill, whatever was there before. -/
def Done {sg : RefSig} {κ' : Kind} {sp : Space} (v : View sg κ' sp S136x256 .bf16) (W : Arr F) (h : ℕ)
    (Ls : List (View.Piece (Elt F) S136x256 .bf16)) : Prop :=
  ∀ f y, Filled h y → v.read (Elt F) (v.writes (Elt F) f Ls) y = W y

section
variable {sg : RefSig} {κ' : Kind} {sp : Space} (v : View sg κ' sp S136x256 .bf16) (W : Arr F)

theorem done_zero (Ls) : Done (F := F) v W 0 Ls := fun f y hy => by unfold Filled at hy; omega

theorem row_lt {h : ℕ} (hh : h < 4) (r : Fin 2) : 128 + 2 * (h / 2) + r.val < 136 := by omega
theorem lane_lt {h : ℕ} (hh : h < 4) (l : Fin 64) : 64 * h + l.val < 256 := by omega

/-- The stores of head `h` extend what the earlier heads left. -/
theorem done_succ (h : ℕ) (hh : h < 4) {Ls} (hL : Done (F := F) v W h Ls)
    {off1 off2 off3 : Fin 2 → ℕ} {inb1 : ∀ a, off1 a + S128x64.size a ≤ S136x256.size a}
    {inb2 : ∀ a, off2 a + S2x128.size a ≤ S136x256.size a} {inb3 : ∀ a, off3 a + S2x128.size a ≤ S136x256.size a}
    {w1 : S128x64.Idx → Elt F .bf16} {w2 w3 : S2x128.Idx → Elt F .bf16}
    (e1 : off1 = ![0, 64 * h]) (e2 : off2 = ![128 + 2 * (h / 2), 0]) (e3 : off3 = ![128 + 2 * (h / 2), 128])
    (h1 : ∀ (r : Fin 128) (l : Fin 64), w1 (ValueIdx.ix2 r l) = W (ValueIdx.ix2 ⟨r.val, by omega⟩ ⟨64 * h + l.val, lane_lt hh l⟩))
    (h2 : ∀ (r : Fin 2) (l : Fin 128), 2 * (h / 2) + r.val ≤ h →
      w2 (ValueIdx.ix2 r l) = W (ValueIdx.ix2 ⟨128 + 2 * (h / 2) + r.val, row_lt hh r⟩ ⟨l.val, by omega⟩))
    (h3 : ∀ (r : Fin 2) (l : Fin 128), 2 * (h / 2) + r.val ≤ h →
      w3 (ValueIdx.ix2 r l) = W (ValueIdx.ix2 ⟨128 + 2 * (h / 2) + r.val, row_lt hh r⟩ ⟨128 + l.val, by omega⟩)) :
    Done (F := F) v W (h + 1) (⟨Rect.unit (s := S136x256) off3 S2x128.size inb3, w3⟩ :: ⟨Rect.unit (s := S136x256) off2 S2x128.size inb2, w2⟩
      :: ⟨Rect.unit (s := S136x256) off1 S128x64.size inb1, w1⟩ :: Ls) := by
  intro f y hy
  have hy1 : (y (1 : Fin 2)).val < 256 := (y (1 : Fin 2)).isLt
  by_cases hr : (y (0 : Fin 2)).val < 128
  · rw [View.read_writes_cons_unit_of_not_mem v f inb3 w3 _ y e3 (0 : Fin 2) (Or.inl (by show (y (0 : Fin 2)).val < 128 + 2 * (h / 2); omega)),
      View.read_writes_cons_unit_of_not_mem v f inb2 w2 _ y e2 (0 : Fin 2) (Or.inl (by show (y (0 : Fin 2)).val < 128 + 2 * (h / 2); omega))]
    by_cases hl : (y (1 : Fin 2)).val < 64 * h
    · rw [View.read_writes_cons_unit_of_not_mem v f inb1 w1 _ y e1 (1 : Fin 2) (Or.inl (by show (y (1 : Fin 2)).val < 64 * h; omega))]
      exact hL f y (Or.inl ⟨hr, hl⟩)
    · have hl' : (y (1 : Fin 2)).val < 64 * h + 64 := by unfold Filled at hy; omega
      rw [View.read_writes_cons_unit_of_mem v f inb1 w1 _ y (ValueIdx.ix2 ⟨(y (0 : Fin 2)).val, hr⟩ ⟨(y (1 : Fin 2)).val - 64 * h, by omega⟩ : S128x64.Idx) e1
        (Fin.forall_fin_two.mpr ⟨(Nat.zero_add _).symm, by show (y (1 : Fin 2)).val = 64 * h + ((y (1 : Fin 2)).val - 64 * h); omega⟩)]
      refine (h1 _ _).trans (congrArg W ?_)
      refine (congrArg₂ ValueIdx.ix2 (Fin.ext rfl) (Fin.ext ?_)).trans (ValueIdx.eq_ix2 y).symm
      show 64 * h + ((y (1 : Fin 2)).val - 64 * h) = (y (1 : Fin 2)).val
      omega
  · have hr' : (y (0 : Fin 2)).val < 128 + h + 1 := by unfold Filled at hy; omega
    by_cases hp : (y (0 : Fin 2)).val < 128 + 2 * (h / 2)
    · rw [View.read_writes_cons_unit_of_not_mem v f inb3 w3 _ y e3 (0 : Fin 2) (Or.inl (by show (y (0 : Fin 2)).val < 128 + 2 * (h / 2); omega)),
        View.read_writes_cons_unit_of_not_mem v f inb2 w2 _ y e2 (0 : Fin 2) (Or.inl (by show (y (0 : Fin 2)).val < 128 + 2 * (h / 2); omega)),
        View.read_writes_cons_unit_of_not_mem v f inb1 w1 _ y e1 (0 : Fin 2) (Or.inr (by show 0 + 128 ≤ (y (0 : Fin 2)).val; omega))]
      exact hL f y (Or.inr ⟨by omega, by omega⟩)
    · by_cases hl : (y (1 : Fin 2)).val < 128
      · rw [View.read_writes_cons_unit_of_not_mem v f inb3 w3 _ y e3 (1 : Fin 2) (Or.inl (by show (y (1 : Fin 2)).val < 128; omega)),
          View.read_writes_cons_unit_of_mem v f inb2 w2 _ y
            (ValueIdx.ix2 ⟨(y (0 : Fin 2)).val - (128 + 2 * (h / 2)), by omega⟩ ⟨(y (1 : Fin 2)).val, hl⟩ : S2x128.Idx) e2
            (Fin.forall_fin_two.mpr ⟨by show (y (0 : Fin 2)).val = 128 + 2 * (h / 2) + ((y (0 : Fin 2)).val - (128 + 2 * (h / 2))); omega,
              (Nat.zero_add _).symm⟩)]
        refine (h2 _ _ (by show 2 * (h / 2) + ((y (0 : Fin 2)).val - (128 + 2 * (h / 2))) ≤ h; omega)).trans (congrArg W ?_)
        refine (congrArg₂ ValueIdx.ix2 (Fin.ext ?_) (Fin.ext rfl)).trans (ValueIdx.eq_ix2 y).symm
        show 128 + 2 * (h / 2) + ((y (0 : Fin 2)).val - (128 + 2 * (h / 2))) = (y (0 : Fin 2)).val
        omega
      · rw [View.read_writes_cons_unit_of_mem v f inb3 w3 _ y
            (ValueIdx.ix2 ⟨(y (0 : Fin 2)).val - (128 + 2 * (h / 2)), by omega⟩ ⟨(y (1 : Fin 2)).val - 128, by omega⟩ : S2x128.Idx) e3
            (Fin.forall_fin_two.mpr ⟨by show (y (0 : Fin 2)).val = 128 + 2 * (h / 2) + ((y (0 : Fin 2)).val - (128 + 2 * (h / 2))); omega,
              by show (y (1 : Fin 2)).val = 128 + ((y (1 : Fin 2)).val - 128); omega⟩)]
        refine (h3 _ _ (by show 2 * (h / 2) + ((y (0 : Fin 2)).val - (128 + 2 * (h / 2))) ≤ h; omega)).trans (congrArg W ?_)
        refine (congrArg₂ ValueIdx.ix2 (Fin.ext ?_) (Fin.ext ?_)).trans (ValueIdx.eq_ix2 y).symm
        · show 128 + 2 * (h / 2) + ((y (0 : Fin 2)).val - (128 + 2 * (h / 2))) = (y (0 : Fin 2)).val
          omega
        · show 128 + ((y (1 : Fin 2)).val - 128) = (y (1 : Fin 2)).val
          omega

/-- A pair of rows whose first row is replaced: the new row. -/
theorem pair_first {α : Type} (old : S2x128.Idx → α) (u : S1x128.Idx → α) (hs : S2x128.Slices ![0, 0] S1x128) (l : Fin 128) :
    updateSlice old u ![0, 0] hs (ValueIdx.ix2 0 l) = u (ValueIdx.ix2 0 l) := by
  rw [updateSlice_apply, dif_pos (Fin.forall_fin_two.mpr ⟨⟨Nat.le_refl 0, Nat.zero_lt_one⟩, ⟨Nat.zero_le _, by show l.val < 0 + 128; omega⟩⟩)]
  congr 1
  funext a
  refine Fin.cases ?_ (fun b => ?_) a
  · rfl
  · rw [Subsingleton.elim b 0]; rfl
/-- A pair of rows whose second row is replaced: the first row stays; -/
theorem pair_second_zero {α : Type} (old : S2x128.Idx → α) (u : S1x128.Idx → α) (hs : S2x128.Slices ![1, 0] S1x128) (l : Fin 128) :
    updateSlice old u ![1, 0] hs (ValueIdx.ix2 0 l) = old (ValueIdx.ix2 0 l) := by
  rw [updateSlice_apply, dif_neg fun h => absurd (h (0 : Fin 2)).1 (by show ¬ 1 ≤ 0; omega)]
/-- the second row is the new one. -/
theorem pair_second_one {α : Type} (old : S2x128.Idx → α) (u : S1x128.Idx → α) (hs : S2x128.Slices ![1, 0] S1x128) (l : Fin 128) :
    updateSlice old u ![1, 0] hs (ValueIdx.ix2 1 l) = u (ValueIdx.ix2 0 l) := by
  rw [updateSlice_apply, dif_pos (Fin.forall_fin_two.mpr ⟨⟨Nat.le_refl 1, by show 1 < 1 + 1; omega⟩, ⟨Nat.zero_le _, by show l.val < 0 + 128; omega⟩⟩)]
  congr 1
  funext a
  refine Fin.cases ?_ (fun b => ?_) a
  · rfl
  · rw [Subsingleton.elim b 0]; rfl

/-- The second head of a pair reads back the first one's sums, under its own product's store; -/
theorem back_sums (h : ℕ) (hh : h < 4) (ho : h % 2 = 1) {Ls} (hL : Done (F := F) v W h Ls)
    {off1 off2 : Fin 2 → ℕ} {inb1 : ∀ a, off1 a + S128x64.size a ≤ S136x256.size a} {inb2 : ∀ a, off2 a + S2x128.size a ≤ S136x256.size a}
    {w1 : S128x64.Idx → Elt F .bf16} (e1 : off1 = ![0, 64 * h]) (e2 : off2 = ![128 + 2 * (h / 2), 0]) (l : Fin 128) :
    v.readCov (⟨Rect.unit (s := S136x256) off1 S128x64.size inb1, w1⟩ :: Ls) (Rect.unit (s := S136x256) off2 S2x128.size inb2).toLoadRect (ValueIdx.ix2 0 l : S2x128.Idx)
      = W (ValueIdx.ix2 ⟨128 + 2 * (h / 2), by omega⟩ ⟨l.val, by omega⟩) := by
  subst e2
  have hi : (Rect.unit (s := S136x256) ![128 + 2 * (h / 2), 0] S2x128.size inb2).toLoadRect.idx (ValueIdx.ix2 0 l : S2x128.Idx)
      = ValueIdx.ix2 ⟨128 + 2 * (h / 2), by omega⟩ ⟨l.val, by omega⟩ :=
    funext fun a => Fin.ext (by
      revert a
      exact Fin.forall_fin_two.mpr ⟨by show 128 + 2 * (h / 2) + 1 * 0 = _; rfl, by show 0 + 1 * l.val = l.val; omega⟩)
  show v.read (Elt F) (v.writes (Elt F) v.junk _) _ = _
  rw [hi, View.read_writes_cons_unit_of_not_mem v _ inb1 w1 _ _ e1 (0 : Fin 2) (Or.inr (by show 0 + 128 ≤ 128 + 2 * (h / 2); omega))]
  exact hL _ _ (Or.inr ⟨by show 128 ≤ 128 + 2 * (h / 2); omega, by show 128 + 2 * (h / 2) < 128 + h; omega⟩)

/-- and the zeros beside them, under its own product's and sums' stores. -/
theorem back_zeros (h : ℕ) (hh : h < 4) (ho : h % 2 = 1) {Ls} (hL : Done (F := F) v W h Ls)
    {off1 off2 off3 : Fin 2 → ℕ} {inb1 : ∀ a, off1 a + S128x64.size a ≤ S136x256.size a} {inb2 : ∀ a, off2 a + S2x128.size a ≤ S136x256.size a}
    {inb3 : ∀ a, off3 a + S2x128.size a ≤ S136x256.size a}
    {w1 : S128x64.Idx → Elt F .bf16} {w2 : S2x128.Idx → Elt F .bf16}
    (e1 : off1 = ![0, 64 * h]) (e2 : off2 = ![128 + 2 * (h / 2), 0]) (e3 : off3 = ![128 + 2 * (h / 2), 128]) (l : Fin 128) :
    v.readCov (⟨Rect.unit (s := S136x256) off2 S2x128.size inb2, w2⟩ :: ⟨Rect.unit (s := S136x256) off1 S128x64.size inb1, w1⟩ :: Ls)
        (Rect.unit (s := S136x256) off3 S2x128.size inb3).toLoadRect (ValueIdx.ix2 0 l : S2x128.Idx)
      = W (ValueIdx.ix2 ⟨128 + 2 * (h / 2), by omega⟩ ⟨128 + l.val, by omega⟩) := by
  subst e3
  have hi : (Rect.unit (s := S136x256) ![128 + 2 * (h / 2), 128] S2x128.size inb3).toLoadRect.idx (ValueIdx.ix2 0 l : S2x128.Idx)
      = ValueIdx.ix2 ⟨128 + 2 * (h / 2), by omega⟩ ⟨128 + l.val, by omega⟩ :=
    funext fun a => Fin.ext (by
      revert a
      exact Fin.forall_fin_two.mpr ⟨by show 128 + 2 * (h / 2) + 1 * 0 = _; rfl, by show 128 + 1 * l.val = 128 + l.val; omega⟩)
  show v.read (Elt F) (v.writes (Elt F) v.junk _) _ = _
  rw [hi, View.read_writes_cons_unit_of_not_mem v _ inb2 w2 _ _ e2 (1 : Fin 2) (Or.inr (by show 0 + 128 ≤ 128 + l.val; omega)),
    View.read_writes_cons_unit_of_not_mem v _ inb1 w1 _ _ e1 (0 : Fin 2) (Or.inr (by show 0 + 128 ≤ 128 + 2 * (h / 2); omega))]
  exact hL _ _ (Or.inr ⟨by show 128 ≤ 128 + 2 * (h / 2); omega, by show 128 + 2 * (h / 2) < 128 + h; omega⟩)

/-- After four heads the first 132 rows are filled. -/
theorem agree_of_done {Ls} (hL : Done (F := F) v W 4 Ls) (f) : Agree (v.read (Elt F) (v.writes (Elt F) f Ls)) W := fun y hy =>
  hL f y (by
    have hy1 : (y (1 : Fin 2)).val < 256 := (y (1 : Fin 2)).isLt
    unfold Filled; omega)

end

section
variable {sg : RefSig} {κ' : Kind} {sp : Space} (v : View sg κ' sp S136x256 .bf16) (I : Ins F) (c : Dev nD) (b : Fin 2)

/-- `part` at head `h`'s product. -/
theorem part_o (h : ℕ) (hh : h < 4) (r : Fin 128) (l : Fin 64) :
    part I c b (ValueIdx.ix2 ⟨r.val, by omega⟩ ⟨64 * h + l.val, lane_lt hh l⟩) = oHead I c b ⟨h, hh⟩ (ValueIdx.ix2 r l) := by
  have e1 : (64 * h + l.val) / 64 % 4 = h := by omega
  have e2 : (64 * h + l.val) % 64 = l.val := by omega
  unfold part
  rw [dif_pos (show r.val < 128 from r.isLt)]
  exact congrArg₂ (fun a d => oHead I c b a (ValueIdx.ix2 r d)) (Fin.ext e1) (Fin.ext e2)
/-- `part` at head `h`'s sums. -/
theorem part_l (h : ℕ) (hh : h < 4) (l : Fin 128) :
    part I c b (ValueIdx.ix2 ⟨128 + h, by omega⟩ ⟨l.val, by omega⟩) = lHead I c b ⟨h, hh⟩ (ValueIdx.ix2 0 l) := by
  unfold part
  rw [dif_neg (show ¬ 128 + h < 128 by omega), dif_pos (show l.val < 128 from l.isLt)]
  exact congrArg (fun a => lHead I c b a (ValueIdx.ix2 0 l)) (Fin.ext (show (128 + h - 128) % 4 = h by omega))
/-- `part` beside head `h`'s sums. -/
theorem part_z (h : ℕ) (hh : h < 4) (l : Fin 128) :
    part I c b (ValueIdx.ix2 ⟨128 + h, by omega⟩ ⟨128 + l.val, by omega⟩) = zRow (F := F) (ValueIdx.ix2 0 l) := by
  unfold part
  rw [dif_neg (show ¬ 128 + h < 128 by omega), dif_neg (show ¬ 128 + l.val < 128 by omega)]
  exact congrArg (fun d => zRow (F := F) (ValueIdx.ix2 0 d)) (Fin.ext (show (128 + l.val - 128) % 128 = l.val by omega))

/-- The stores of the first head of a pair. -/
theorem done_first (h : ℕ) (hh : h < 4) (he : h % 2 = 0) {Ls} (hL : Done (F := F) v (part I c b) h Ls)
    {off1 off2 off3 : Fin 2 → ℕ} {inb1 : ∀ a, off1 a + S128x64.size a ≤ S136x256.size a}
    {inb2 : ∀ a, off2 a + S2x128.size a ≤ S136x256.size a} {inb3 : ∀ a, off3 a + S2x128.size a ≤ S136x256.size a}
    {w1 : S128x64.Idx → Elt F .bf16} {o2 o3 : S2x128.Idx → Elt F .bf16} {u2 u3 : S1x128.Idx → Elt F .bf16}
    {s2 s3 : S2x128.Slices ![0, 0] S1x128}
    (e1 : off1 = ![0, 64 * h]) (e2 : off2 = ![128 + 2 * (h / 2), 0]) (e3 : off3 = ![128 + 2 * (h / 2), 128])
    (h1 : w1 = oHead I c b ⟨h, hh⟩) (h2 : u2 = lHead I c b ⟨h, hh⟩) (h3 : u3 = zRow) :
    Done (F := F) v (part I c b) (h + 1) (⟨Rect.unit (s := S136x256) off3 S2x128.size inb3, updateSlice o3 u3 ![0, 0] s3⟩
      :: ⟨Rect.unit (s := S136x256) off2 S2x128.size inb2, updateSlice o2 u2 ![0, 0] s2⟩
      :: ⟨Rect.unit (s := S136x256) off1 S128x64.size inb1, w1⟩ :: Ls) := by
  subst h1 h2 h3
  refine done_succ v _ h hh hL e1 e2 e3 (fun r l => (part_o I c b h hh r l).symm) (fun r l hr => ?_) (fun r l hr => ?_)
  · obtain rfl : r = 0 := Fin.ext (show r.val = 0 by omega)
    rw [pair_first, ← part_l I c b h hh l]
    exact congrArg (fun a => part I c b (ValueIdx.ix2 a _)) (Fin.ext (show 128 + h = 128 + 2 * (h / 2) + 0 by omega))
  · obtain rfl : r = 0 := Fin.ext (show r.val = 0 by omega)
    rw [pair_first, ← part_z I c b h hh l]
    exact congrArg (fun a => part I c b (ValueIdx.ix2 a _)) (Fin.ext (show 128 + h = 128 + 2 * (h / 2) + 0 by omega))

/-- The stores of the second head of a pair, over the pair's rows read back. -/
theorem done_second (h : ℕ) (hh : h < 4) (ho : h % 2 = 1) {Ls} (hL : Done (F := F) v (part I c b) h Ls)
    {off1 off2 off3 : Fin 2 → ℕ} {inb1 : ∀ a, off1 a + S128x64.size a ≤ S136x256.size a}
    {inb2 : ∀ a, off2 a + S2x128.size a ≤ S136x256.size a} {inb3 : ∀ a, off3 a + S2x128.size a ≤ S136x256.size a}
    {w1 : S128x64.Idx → Elt F .bf16} {u2 u3 : S1x128.Idx → Elt F .bf16}
    {s2 s3 : S2x128.Slices ![1, 0] S1x128}
    (e1 : off1 = ![0, 64 * h]) (e2 : off2 = ![128 + 2 * (h / 2), 0]) (e3 : off3 = ![128 + 2 * (h / 2), 128])
    (h1 : w1 = oHead I c b ⟨h, hh⟩) (h2 : u2 = lHead I c b ⟨h, hh⟩) (h3 : u3 = zRow) {o2 o3 : S2x128.Idx → Elt F .bf16}
    (ho2 : o2 = v.readCov (⟨Rect.unit (s := S136x256) off1 S128x64.size inb1, w1⟩ :: Ls) (Rect.unit (s := S136x256) off2 S2x128.size inb2).toLoadRect)
    (ho3 : o3 = v.readCov (⟨Rect.unit (s := S136x256) off2 S2x128.size inb2, updateSlice o2 u2 ![1, 0] s2⟩
      :: ⟨Rect.unit (s := S136x256) off1 S128x64.size inb1, w1⟩ :: Ls) (Rect.unit (s := S136x256) off3 S2x128.size inb3).toLoadRect) :
    Done (F := F) v (part I c b) (h + 1) (⟨Rect.unit (s := S136x256) off3 S2x128.size inb3, updateSlice o3 u3 ![1, 0] s3⟩
      :: ⟨Rect.unit (s := S136x256) off2 S2x128.size inb2, updateSlice o2 u2 ![1, 0] s2⟩
      :: ⟨Rect.unit (s := S136x256) off1 S128x64.size inb1, w1⟩ :: Ls) := by
  subst h1 h2 h3
  have hb : 128 + h = 128 + 2 * (h / 2) + 1 := by omega
  refine done_succ v _ h hh hL e1 e2 e3 (fun r l => (part_o I c b h hh r l).symm) (fun r l hr => ?_) (fun r l hr => ?_)
  · rcases (by omega : r.val = 0 ∨ r.val = 1) with h' | h'
    · obtain rfl : r = 0 := Fin.ext h'
      rw [pair_second_zero, ho2]
      exact back_sums v _ h hh ho hL e1 e2 l
    · obtain rfl : r = 1 := Fin.ext h'
      rw [pair_second_one, ← part_l I c b h hh l]
      exact congrArg (fun a => part I c b (ValueIdx.ix2 a _)) (Fin.ext hb)
  · rcases (by omega : r.val = 0 ∨ r.val = 1) with h' | h'
    · obtain rfl : r = 0 := Fin.ext h'
      rw [pair_second_zero, ho3]
      exact back_zeros v _ h hh ho hL e1 e2 e3 l
    · obtain rfl : r = 1 := Fin.ext h'
      rw [pair_second_one, ← part_z I c b h hh l]
      exact congrArg (fun a => part I c b (ValueIdx.ix2 a _)) (Fin.ext hb)

end

end Cert.KernelIdeal.Exch

end
-- ==== Proof.Payloads.lean ====
/-
# What the kernel stores, head by head

Each stored value of the compute phase is the product, the sums or the zeros of one head.
-/
module

public import proofs.«01_k».proof.Proof.Contents
public import Idealize.ShloMosaic.Lib.Pointwise.Reshape

@[expose] public section

noncomputable section

namespace Cert.KernelIdeal.Exch

open Cert.KernelIdeal Cert.KernelIdeal.Gen
open Idealize.ShloMosaic
open Idealize.ShloMosaic.TcCoe

variable {F : FTy → Type} [FloatOps F] [Named F]
variable {I : Ins F} {c : Dev nD}

/-- A head's product, from its weights and its values. -/
theorem oHead_of {b : Fin 2} {h : Fin 4} {P : FVec F S128x128 .f32} {V : FVec F S128x64 .bf16} (hP : P = pT I c b h)
    (hV : V = headOf b h (vMat I)) (hs : S128x64.ShapeCasts S128x64) :
    shapeCast S128x64 (truncf .bf16 (matmul dot_S128x128_S128x64_S128x64_0_0_1_1_n_n none (truncf .bf16 P bitsLt_bf16_f32) V
      (constant S128x64 .f32 0x00000000#32)) bitsLt_bf16_f32) hs = oHead I c b h := by
  subst hP hV; exact shapeCast_id _ _
/-- A head's sums, from its weights. -/
theorem lHead_of {b : Fin 2} {h : Fin 4} {P : FVec F S128x128 .f32} (hP : P = pT I c b h) (hs : S1x128.ShapeCasts S1x128) :
    shapeCast S1x128 (truncf .bf16 (shapeCast S1x128 (multiReduction .add [0] S128 P 0x00000000#32 reduces_S128x128_S128 (.inl rfl) rfl)
      shapeCasts_S128_S1x128) bitsLt_bf16_f32) hs = lHead I c b h := by
  subst hP; exact shapeCast_id _ _
/-- The zeros beside a head's sums. -/
theorem zRow_of (hs : S1x128.ShapeCasts S1x128) :
    shapeCast S1x128 (broadcast S1x128 (Scalar.ofBits .bf16 0x0000#16) : FVec F S1x128 .bf16) hs = zRow := shapeCast_id _ _

section
variable {v24 v28 v32 : FVec F S256x256 .bf16} {r : IVec S128x128 1} {e : BitVec 1}
  (hq : v24 = qMat I) (hk : v28 = kMat I) (hv : v32 = vMat I) (hr : r = sameBlk) (he : e = evenDev c)

section First
variable {v2 : BitVec 32} {v57 v58 v60 v67 : IVec S128x128 32} {c64 v69 v71 : BitVec 32}
  (hr₀ : k0_pay9 v57 v58 c64 v60 v67 v69 v71 = sameBlk) (he₀ : Scalar.cmpi .eq (Scalar.remsi v2 2#32) 0#32 = evenDev c)
include hq hk hr₀ he₀

theorem pay10_eq : k0_pay10 v2 v24 v28 v57 v58 c64 v60 v67 v69 v71 = pT I c 0 0 := by
  subst hq hk
  unfold pT
  rw [← hr₀, ← he₀]
  rfl
theorem pay12_eq : k0_pay12 v2 v24 v28 v57 v58 c64 v60 v67 v69 v71 = lHead I c 0 0 := lHead_of (pay10_eq hq hk hr₀ he₀) _
include hv
theorem pay11_eq : k0_pay11 v2 v24 v28 v32 v57 v58 c64 v60 v67 v69 v71 = oHead I c 0 0 :=
  oHead_of (pay10_eq hq hk hr₀ he₀) (by rw [hv]; rfl) _
end First

section
include hq hk hr he
theorem pay14_eq : k0_pay14 v24 v28 r e = pT I c 0 1 := by subst hq hk hr he; rfl
theorem pay19_eq : k0_pay19 v24 v28 r e = pT I c 0 2 := by subst hq hk hr he; rfl
theorem pay23_eq : k0_pay23 v24 v28 r e = pT I c 0 3 := by subst hq hk hr he; rfl
theorem pay28_eq : k0_pay28 v24 v28 r e = pT I c 1 0 := by subst hq hk hr he; rfl
theorem pay32_eq : k0_pay32 v24 v28 r e = pT I c 1 1 := by subst hq hk hr he; rfl
theorem pay38_eq : k0_pay38 r e (k0_pay37 v24 v28) = pT I c 1 2 := by subst hq hk hr he; rfl
theorem pay42_eq : k0_pay42 v24 v28 r e = pT I c 1 3 := by subst hq hk hr he; rfl

theorem pay16_eq : k0_pay16 v24 v28 r e = lHead I c 0 1 := lHead_of (pay14_eq hq hk hr he) _
theorem pay21_eq : k0_pay21 (k0_pay19 v24 v28 r e) = lHead I c 0 2 := lHead_of (pay19_eq hq hk hr he) _
theorem pay26_eq : k0_pay26 (k0_pay25 v24 v28 r e) = lHead I c 0 3 := lHead_of (pay23_eq hq hk hr he) _
theorem pay30_eq : k0_pay30 v24 v28 r e = lHead I c 1 0 := lHead_of (pay28_eq hq hk hr he) _
theorem pay34_eq : k0_pay34 v24 v28 r e = lHead I c 1 1 := lHead_of (pay32_eq hq hk hr he) _
theorem pay40_eq : k0_pay40 r e (k0_pay37 v24 v28) = lHead I c 1 2 := lHead_of (pay38_eq hq hk hr he) _
theorem pay46_eq : k0_pay46 (k0_pay43 v24 v28 r e) = lHead I c 1 3 := lHead_of (pay42_eq hq hk hr he) _

include hv
theorem pay15_eq : k0_pay15 v24 v28 v32 r e = oHead I c 0 1 := oHead_of (pay14_eq hq hk hr he) (by rw [hv]; rfl) _
theorem pay20_eq : k0_pay20 (k0_pay18 v32) (k0_pay19 v24 v28 r e) = oHead I c 0 2 := oHead_of (pay19_eq hq hk hr he) (by rw [hv]; rfl) _
theorem pay24_eq : k0_pay24 v24 v28 v32 r e = oHead I c 0 3 := oHead_of (pay23_eq hq hk hr he) (by rw [hv]; rfl) _
theorem pay29_eq : k0_pay29 v24 v28 v32 r e = oHead I c 1 0 := oHead_of (pay28_eq hq hk hr he) (by rw [hv]; rfl) _
theorem pay33_eq : k0_pay33 v24 v28 v32 r e = oHead I c 1 1 := oHead_of (pay32_eq hq hk hr he) (by rw [hv]; rfl) _
theorem pay39_eq : k0_pay39 r e (k0_pay36 v32) (k0_pay37 v24 v28) = oHead I c 1 2 := oHead_of (pay38_eq hq hk hr he) (by rw [hv]; rfl) _
theorem pay45_eq : k0_pay45 (k0_pay44 v24 v28 v32 r e) = oHead I c 1 3 := oHead_of (pay42_eq hq hk hr he) (by rw [hv]; rfl) _
end
end

end Cert.KernelIdeal.Exch

end
-- ==== Proof.Adds.lean ====
/-
# One exchange step's addition

Reading a landing slot as the kernel does is reading the slot; the sum of the array and the slot, stored over the array,
is the array's contents one step on.
-/
module

public import proofs.«01_k».proof.Proof.Schedule
public import Idealize.ShloMosaic.Lib.WritesUnit
public import Idealize.ShloMosaic.Lib.Exec.Geometry
public import Idealize.ShloMosaic.Lib.Pointwise.Reshape

@[expose] public section

noncomputable section

namespace Cert.KernelIdeal.Exch

open Cert.KernelIdeal Cert.KernelIdeal.Gen
open Idealize.ShloMosaic
open Idealize.ShloMosaic.TcCoe

variable {F : FTy → Type} [FloatOps F] [Named F]

/-- A slab of a landing buffer, flattened, is the slot read. -/
theorem slab_read (M : Memref sig .tc .vmem S3x136x256 .bf16) (off : Fin 3 → ℕ) (inb : ∀ a, off a + S1x136x256.size a ≤ S3x136x256.size a)
    (f : M.view.ty.Contents (Elt F)) (hs : S1x136x256.ShapeCasts S136x256) :
    (shapeCast S136x256 (M.view.readAt (Elt F) (Rect.unit (s := S3x136x256) off S1x136x256.size inb).toLoadRect f) hs : Arr F)
      = (cutSlot M off inb).view.read (Elt F) f := rfl

/-- The slab lies in the slot. -/
theorem slab_sub (M : Memref sig .tc .vmem S3x136x256 .bf16) (off : Fin 3 → ℕ) (inb : ∀ a, off a + S1x136x256.size a ≤ S3x136x256.size a) :
    (M.access (Rect.unit (s := S3x136x256) off S1x136x256.size inb)).set ⊆ (cutSlot M off inb).view.set := by
  rw [Memref.set_view_squeeze]

section
variable {sg : RefSig} {κ' : Kind} {sp : Space} (v : View sg κ' sp S136x256 .bf16)

/-- A store over a whole array leaves what was stored. -/
theorem read_store_whole (f : v.ty.Contents (Elt F)) {off : Fin 2 → ℕ} (ho : off = ![0, 0]) (inb : ∀ a, off a + S136x256.size a ≤ S136x256.size a)
    (w : S136x256.Idx → Elt F .bf16) (Ls : List (View.Piece (Elt F) S136x256 .bf16)) :
    v.read (Elt F) (v.writes (Elt F) f (⟨Rect.unit (s := S136x256) off S136x256.size inb, w⟩ :: Ls)) = w :=
  funext fun y => View.read_writes_cons_unit_of_mem v f inb w Ls y y ho
    (Fin.forall_fin_two.mpr ⟨(Nat.zero_add _).symm, (Nat.zero_add _).symm⟩)
/-- A load of a whole array is the array read. -/
theorem read_load_whole (f : v.ty.Contents (Elt F)) {off : Fin 2 → ℕ} (ho : off = ![0, 0]) (inb : ∀ a, off a + S136x256.size a ≤ S136x256.size a) :
    v.readAt (Elt F) (Rect.unit (s := S136x256) off S136x256.size inb).toLoadRect f = v.read (Elt F) f := by
  subst ho
  refine funext fun y => congrArg (v.read (Elt F) f) (funext fun a => Fin.ext ?_)
  revert a
  exact Fin.forall_fin_two.mpr ⟨by show 0 + 1 * (y (0 : Fin 2)).val = (y (0 : Fin 2)).val; omega, by show 0 + 1 * (y (1 : Fin 2)).val = (y (1 : Fin 2)).val; omega⟩
/-- The sum the kernel forms is the array read plus the slot read. -/
theorem sum_eq (f : v.ty.Contents (Elt F)) {off : Fin 2 → ℕ} (ho : off = ![0, 0]) {inb : ∀ a, off a + S136x256.size a ≤ S136x256.size a}
    (w : Arr F) (hs : S136x256.ShapeCasts S136x256) :
    shapeCast S136x256 (addf (v.readAt (Elt F) (Rect.unit (s := S136x256) off S136x256.size inb).toLoadRect f : Arr F) w) hs
      = addf (v.read (Elt F) f : Arr F) w := by
  exact (shapeCast_id _ _).trans (congrArg (fun a : Arr F => addf a w) (read_load_whole v f ho _))
/-- A part of the array read back after a store over the whole of it is that part of what was stored. -/
theorem readCov_store_whole {off : Fin 2 → ℕ} (ho : off = ![0, 0]) (inb : ∀ a, off a + S136x256.size a ≤ S136x256.size a)
    (w : S136x256.Idx → Elt F .bf16) (Ls : List (View.Piece (Elt F) S136x256 .bf16)) (B : LoadRect S136x256) :
    v.readCov (⟨Rect.unit (s := S136x256) off S136x256.size inb, w⟩ :: Ls) B = fun x => w (B.idx x) :=
  funext fun x => congrFun (read_store_whole v v.junk ho inb w Ls) (B.idx x)

end

variable (A₀ : Fin 2 → Dev nD → Arr F) (c : Dev nD)

/-- The array plus the partner's is the array one step on. -/
theorem agree_add (β : Fin 2) (s : Fin 3) {a b : Arr F} (ha : Agree a (Acc A₀ β s.val c)) (hb : Agree b (Acc A₀ β s.val (peer (ord β s) c))) :
    Agree (addf a b) (Acc A₀ β (s.val + 1) c) := fun i hi => by
  show FloatOps.addf (a i) (b i) = FloatOps.addf (Acc A₀ β s.val c i) (Acc A₀ β s.val (peer (ordN β s.val) c) i)
  rw [ordN_val, ha i hi, hb i hi]

/-- What the step leaves: the array read, plus the slot read, stored over the array. -/
theorem agree_store (β : Fin 2) (s : Fin 3) {fa : Buf (Elt F) ((accM β).view.loc (c : Thread nD τ))}
    {fs : Buf (Elt F) ((slotM β s).view.loc (c : Thread nD τ))}
    (ha : Agree ((accM β).view.read (Elt F) fa) (Acc A₀ β s.val c))
    (hb : Agree ((slotM β s).view.read (Elt F) fs) (Acc A₀ β s.val (peer (ord β s) c)))
    {f : Buf (Elt F) ((accM β).view.loc (c : Thread nD τ))} {off : Fin 2 → ℕ} (ho : off = ![0, 0])
    {inb : ∀ a, off a + S136x256.size a ≤ S136x256.size a} {w : S136x256.Idx → Elt F .bf16} {Ls}
    (hw : w = addf ((accM β).view.read (Elt F) fa) ((slotM β s).view.read (Elt F) fs)) :
    Agree ((accM β).view.read (Elt F) ((accM β).view.writes (Elt F) f (⟨Rect.unit (s := S136x256) off S136x256.size inb, w⟩ :: Ls)))
      (Acc A₀ β (s.val + 1) c) := by
  rw [read_store_whole _ _ ho]; subst hw; exact agree_add A₀ c β s ha hb

end Cert.KernelIdeal.Exch

end
-- ==== Proof.Finish.lean ====
/-
# The last addition and the output

A device's output block from the two arrays at the end of the exchange: what the kernel reads back of an array it has just
stored is that part of what it stored, and the two stores into the output block fill it.
-/
module

public import proofs.«01_k».proof.Proof.Adds

@[expose] public section

noncomputable section

namespace Cert.KernelIdeal.Exch

open Cert.KernelIdeal Cert.KernelIdeal.Gen
open Idealize.ShloMosaic
open Idealize.ShloMosaic.TcCoe

variable {F : FTy → Type} [FloatOps F] [Named F]

section
variable {sg : RefSig} {κ' : Kind} {sp : Space} (v : View sg κ' sp S136x256 .bf16)
variable {off : Fin 2 → ℕ} (ho : off = ![0, 0]) (inb : ∀ a, off a + S136x256.size a ≤ S136x256.size a)
variable (w : Arr F) (Ls : List (View.Piece (Elt F) S136x256 .bf16))
include ho

/-- The numerators read back. -/
theorem top_read {off' : Fin 2 → ℕ} (ho' : off' = ![0, 0]) (inb' : ∀ a, off' a + S128x256.size a ≤ S136x256.size a) :
    v.readCov (⟨Rect.unit (s := S136x256) off S136x256.size inb, w⟩ :: Ls) (Rect.unit (s := S136x256) off' S128x256.size inb').toLoadRect
      = topOf w := by
  rw [readCov_store_whole v ho]
  subst ho'
  refine funext fun y => congrArg w (funext fun a => Fin.ext ?_)
  revert a
  exact Fin.forall_fin_two.mpr ⟨by show 0 + 1 * (y (0 : Fin 2)).val = (y (0 : Fin 2)).val; omega, by show 0 + 1 * (y (1 : Fin 2)).val = (y (1 : Fin 2)).val; omega⟩
/-- One head's sums read back. -/
theorem row_read (h : Fin 4) {off' : Fin 2 → ℕ} (ho' : off' = ![128 + h.val, 0]) (inb' : ∀ a, off' a + S1x128.size a ≤ S136x256.size a) :
    v.readCov (⟨Rect.unit (s := S136x256) off S136x256.size inb, w⟩ :: Ls) (Rect.unit (s := S136x256) off' S1x128.size inb').toLoadRect
      = rowOf h w := by
  rw [readCov_store_whole v ho]
  subst ho'
  refine funext fun y => congrArg w (funext fun a => Fin.ext ?_)
  have h0 : (y (0 : Fin 2)).val < 1 := (y (0 : Fin 2)).isLt
  revert a
  exact Fin.forall_fin_two.mpr ⟨by show 128 + h.val + 1 * (y (0 : Fin 2)).val = 128 + h.val; omega, by show 0 + 1 * (y (1 : Fin 2)).val = (y (1 : Fin 2)).val; omega⟩
end

variable (A₀ : Fin 2 → Dev nD → Arr F) (c : Dev nD)

/-- One batch entry's output, from what the last step reads. -/
theorem finish_of (β : Fin 2) {fa : Buf (Elt F) ((accM β).view.loc (c : Thread nD τ))}
    {fs : Buf (Elt F) ((slotM β 2).view.loc (c : Thread nD τ))}
    (ha : Agree ((accM β).view.read (Elt F) fa) (Acc A₀ β (2 : Fin 3).val c))
    (hb : Agree ((slotM β 2).view.read (Elt F) fs) (Acc A₀ β (2 : Fin 3).val (peer (ord β 2) c)))
    {w : Arr F} (hw : w = addf ((accM β).view.read (Elt F) fa) ((slotM β 2).view.read (Elt F) fs))
    {t : FVec F S128x256 .bf16} {r0 r1 r2 r3 : FVec F S1x128 .bf16} {wo wo' : Vec F S256x512 .f32}
    (ht : t = topOf w) (h0 : r0 = rowOf 0 w) (h1 : r1 = rowOf 1 w) (h2 : r2 = rowOf 2 w) (h3 : r3 = rowOf 3 w) (hwo : wo' = wo) :
    k0_pay55 t r0 r1 r2 r3 wo' = finish (Acc A₀ β 3 c) wo := by
  subst ht h0 h1 h2 h3 hwo hw
  exact finish_congr (agree_add A₀ c β 2 ha hb) _

/-- The second batch entry's, whose operations the kernel forms in two parts. -/
theorem finish_of' (β : Fin 2) {fa : Buf (Elt F) ((accM β).view.loc (c : Thread nD τ))}
    {fs : Buf (Elt F) ((slotM β 2).view.loc (c : Thread nD τ))}
    (ha : Agree ((accM β).view.read (Elt F) fa) (Acc A₀ β (2 : Fin 3).val c))
    (hb : Agree ((slotM β 2).view.read (Elt F) fs) (Acc A₀ β (2 : Fin 3).val (peer (ord β 2) c)))
    {w : Arr F} (hw : w = addf ((accM β).view.read (Elt F) fa) ((slotM β 2).view.read (Elt F) fs))
    {u : FVec F S128x256 .f32} {u0 u1 u2 : FVec F S128x64 .f32} {t : FVec F S128x256 .bf16} {r0 r1 r2 r3 : FVec F S1x128 .bf16} {wo wo' : Vec F S256x512 .f32}
    (hu : u = k0_pay57 t) (hu0 : u0 = k0_pay58 t r0) (hu1 : u1 = k0_pay59 t r1) (hu2 : u2 = k0_pay60 t r2)
    (ht : t = topOf w) (h0 : r0 = rowOf 0 w) (h1 : r1 = rowOf 1 w) (h2 : r2 = rowOf 2 w) (h3 : r3 = rowOf 3 w) (hwo : wo' = wo) :
    k0_pay1 u u0 u1 u2 r3 wo' = finish (Acc A₀ β 3 c) wo := by
  subst hu hu0 hu1 hu2
  exact (pay1_eq _ _ _ _ _ _).trans (finish_of A₀ c β ha hb hw ht h0 h1 h2 h3 hwo)

/-- The two stores into the output block fill it. -/
theorem out_read {sg : RefSig} {κ' : Kind} {sp : Space} (v : View sg κ' sp S2x128x512 .f32) (f : v.ty.Contents (Elt F))
    {off₀ off₁ : Fin 3 → ℕ} (ho₀ : off₀ = ![0, 0, 0]) (ho₁ : off₁ = ![1, 0, 0])
    (inb₀ : ∀ a, off₀ a + S1x128x512.size a ≤ S2x128x512.size a) (inb₁ : ∀ a, off₁ a + S1x128x512.size a ≤ S2x128x512.size a)
    {w₀ w₁ : FVec F S1x128x512 .f32} {a : Fin 2 → Arr F} {wo : Vec F S256x512 .f32} (h₀ : w₀ = finish (a 0) wo) (h₁ : w₁ = finish (a 1) wo) :
    v.read (Elt F) (v.writes (Elt F) f [⟨Rect.unit (s := S2x128x512) off₁ S1x128x512.size inb₁, w₁⟩, ⟨Rect.unit (s := S2x128x512) off₀ S1x128x512.size inb₀, w₀⟩])
      = outOf a wo := by
  subst h₀ h₁
  refine funext fun y => ?_
  rcases Nat.lt_or_ge (y (0 : Fin 3)).val 1 with hy | hy
  · have e : y (0 : Fin 3) = (0 : Fin 2) := Fin.ext (by show (y (0 : Fin 3)).val = 0; omega)
    refine (View.read_writes_cons_unit_of_not_mem v f inb₁ _ _ y ho₁ (0 : Fin 3) (.inl hy)).trans ?_
    refine (View.read_writes_cons_unit_of_mem v f inb₀ _ _ y (ValueIdx.ix3 0 (y (1 : Fin 3)) (y (2 : Fin 3))) ho₀ ?_).trans ?_
    · intro b; fin_cases b
      · show (y (0 : Fin 3)).val = 0 + (0 : ℕ); omega
      · exact (Nat.zero_add _).symm
      · exact (Nat.zero_add _).symm
    · unfold outOf; rw [e]
  · have h2 : (y (0 : Fin 3)).val < 2 := (y (0 : Fin 3)).isLt
    have e : y (0 : Fin 3) = (1 : Fin 2) := Fin.ext (by show (y (0 : Fin 3)).val = 1; omega)
    refine (View.read_writes_cons_unit_of_mem v f inb₁ _ _ y (ValueIdx.ix3 0 (y (1 : Fin 3)) (y (2 : Fin 3))) ho₁ ?_).trans ?_
    · intro b; fin_cases b
      · show (y (0 : Fin 3)).val = 1 + 0; omega
      · exact (Nat.zero_add _).symm
      · exact (Nat.zero_add _).symm
    · unfold outOf; rw [e]

/-- The output block after its two stores. -/
theorem out_stores (f : (Memref.whole cc0_stg5_0 : Memref sig .tc .vmem S2x128x512 .f32).view.ty.Contents (Elt F))
    {off₀ off₁ : Fin 3 → ℕ} (ho₀ : off₀ = ![0, 0, 0]) (ho₁ : off₁ = ![1, 0, 0])
    (inb₀ : ∀ a, off₀ a + S1x128x512.size a ≤ S2x128x512.size a) (inb₁ : ∀ a, off₁ a + S1x128x512.size a ≤ S2x128x512.size a)
    {w₀ w₁ : FVec F S1x128x512 .f32} {a : Fin 2 → Arr F} {wo : Vec F S256x512 .f32} (h₀ : w₀ = finish (a 0) wo) (h₁ : w₁ = finish (a 1) wo) :
    (Memref.whole cc0_stg5_0).view.writes (Elt F) f [⟨Rect.unit (s := S2x128x512) off₁ S1x128x512.size inb₁, w₁⟩, ⟨Rect.unit (s := S2x128x512) off₀ S1x128x512.size inb₀, w₀⟩]
      = outOf a wo :=
  (View.read_whole cc0_stg5_0 _).symm.trans (out_read (Memref.whole cc0_stg5_0 : Memref sig .tc .vmem S2x128x512 .f32).view f ho₀ ho₁ inb₀ inb₁ h₀ h₁)

end Cert.KernelIdeal.Exch

end
-- ==== Proof.Body.lean ====
/-
# One device's run

The kernel's body on one device, from its inputs staged, its scratch buffers and its share of the protocol, to its
output block in place, its scratch buffers back and its semaphores at zero.
-/
module

public import proofs.«01_k».proof.Proof.Steps
public import proofs.«01_k».proof.Proof.Stores
public import proofs.«01_k».proof.Proof.Payloads
public import proofs.«01_k».proof.Proof.Finish
public import proofs.«01_k».proof.Proof.Gen.KernelIdeal.Points
public import proofs.«01_k».proof.Proof.Gen.KernelIdeal.Frame
public import Idealize.ShloMosaic.Lib.Ring.FamCut

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- Device `c`'s input blocks, as staged. -/
def insAt (c : Dev nD) : Ins F where
  x := iblk m c 0 t0_0
  wq := iblk m c 1 t0_0
  k := iblk m c 2 t0_0
  v := iblk m c 3 t0_0
  wo := iblk m c 4 t0_0

/-- What array `β` of device `c` starts the exchange with. -/
def A₀ (β : Fin 2) (c : Dev nD) : Arr F := part (insAt m c) c β

/-- The output block of device `c`. -/
def outAt (c : Dev nD) : Vec F S2x128x512 .f32 := outOf (fun β => Acc (A₀ m) β 3 c) (insAt m c).wo

/-! ## What a device starts from -/

/-- The tokens of the payments device `c` makes. -/
def payToks (c : Dev nD) : sProp 𝕄 :=
  iprop((bigSep Finset.univ fun k : Fin 3 => dutyTok ER (barCell (peer k c)) 0 k)
    ∗ bigSep Finset.univ fun x : Fin 2 × Fin 3 => iprop(dutyTok ER (sendCell x.1 x.2 c) 0 (0 : Fin 3) ∗ dutyTok ER (recvCell x.1 x.2 (peer (ord x.1 x.2) c)) 0 (0 : Fin 3)))
/-- Device `c`'s positions at its own cells, round `r`. -/
def positions (c : Dev nD) (r : ℕ) : sProp 𝕄 :=
  bigSep Finset.univ fun k : Option (Fin 12) => atPos ER (kcell (c, k)) r ∅ 0
/-- The credit device `c` is launched with: its barrier's and its receive cells'. -/
def credits (c : Dev nD) : sProp 𝕄 :=
  iprop(cred (tallyAt (barCell c) () 3) ∗ bigSep Finset.univ fun x : Fin 2 × Fin 3 => cred (tallyAt (recvCell x.1 x.2 c) () N))

omit [FloatOps F] [Named F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] [Named F] in
theorem bigSep_steps (Φ : Fin 2 × Fin 3 → sProp 𝕄) : bigSep Finset.univ Φ
    = iprop(Φ (0, 0) ∗ Φ (0, 1) ∗ Φ (0, 2) ∗ Φ (1, 0) ∗ Φ (1, 1) ∗ Φ (1, 2)) :=
  bigSep_univ_eq_bigSepL [(0, 0), (0, 1), (0, 2), (1, 0), (1, 1), (1, 2)] (by decide) (by decide) Φ
omit [FloatOps F] [Named F] in
theorem bigSep_cells (Φ : Option (Fin 12) → sProp 𝕄) : bigSep Finset.univ Φ
    = iprop(Φ none ∗ Φ (some 0) ∗ Φ (some 1) ∗ Φ (some 2) ∗ Φ (some 3) ∗ Φ (some 4) ∗ Φ (some 5)
        ∗ Φ (some 6) ∗ Φ (some 7) ∗ Φ (some 8) ∗ Φ (some 9) ∗ Φ (some 10) ∗ Φ (some 11)) :=
  bigSep_univ_eq_bigSepL [none, some 0, some 1, some 2, some 3, some 4, some 5, some 6, some 7, some 8, some 9, some 10, some 11]
    (by decide) (by decide) Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] [Named F] in
theorem accPts_0 (c : Dev nD) (f) : accPts (F := F) 0 c f
    = ((Memref.whole cc0_scratch0).view.loc (c : Thread nD τ) ↦[(Memref.whole cc0_scratch0).view.set]{fullShare} f) := rfl
omit [FloatOps F] [Named F] in
theorem accPts_1 (c : Dev nD) (f) : accPts (F := F) 1 c f
    = ((Memref.whole cc0_scratch1).view.loc (c : Thread nD τ) ↦[(Memref.whole cc0_scratch1).view.set]{fullShare} f) := rfl

/-- A slot held, as the kernel spells it. -/
abbrev cutPts (M : Memref sig .tc .vmem S3x136x256 .bf16) (off : Fin 3 → ℕ) (inb : ∀ a, off a + S1x136x256.size a ≤ S3x136x256.size a) (c : Dev nD)
    (f : Buf (Elt F) ((cutSlot M off inb).view.loc (c : Thread nD τ))) : sProp 𝕄 :=
  (cutSlot M off inb).view.loc (c : Thread nD τ) ↦[(cutSlot M off inb).view.set]{fullShare} f

omit [FloatOps F] [Named F] in
theorem slotPts_00 (c : Dev nD) (f) :
    slotPts (F := F) 0 0 c f = cutPts (Memref.whole cc0_scratch2) ![0, 0, 0] inb_S3x136x256_S1x136x256_0_0_0 c f := rfl
omit [FloatOps F] [Named F] in
theorem slotPts_01 (c : Dev nD) (f) :
    slotPts (F := F) 0 1 c f = cutPts (Memref.whole cc0_scratch2) ![1, 0, 0] inb_S3x136x256_S1x136x256_1_0_0 c f := rfl
omit [FloatOps F] [Named F] in
theorem slotPts_02 (c : Dev nD) (f) :
    slotPts (F := F) 0 2 c f = cutPts (Memref.whole cc0_scratch2) ![2, 0, 0] inb_S3x136x256_S1x136x256_2_0_0 c f := rfl
omit [FloatOps F] [Named F] in
theorem slotPts_10 (c : Dev nD) (f) :
    slotPts (F := F) 1 0 c f = cutPts (Memref.whole cc0_scratch3) ![0, 0, 0] inb_S3x136x256_S1x136x256_0_0_0 c f := rfl
omit [FloatOps F] [Named F] in
theorem slotPts_11 (c : Dev nD) (f) :
    slotPts (F := F) 1 1 c f = cutPts (Memref.whole cc0_scratch3) ![1, 0, 0] inb_S3x136x256_S1x136x256_1_0_0 c f := rfl
omit [FloatOps F] [Named F] in
theorem slotPts_12 (c : Dev nD) (f) :
    slotPts (F := F) 1 2 c f = cutPts (Memref.whole cc0_scratch3) ![2, 0, 0] inb_S3x136x256_S1x136x256_2_0_0 c f := rfl

/-- Every landing slot, whatever it holds. -/
def slots (c : Dev nD) : sProp 𝕄 := bigSep Finset.univ fun x : Fin 2 × Fin 3 => slotAny (F := F) x.1 x.2 c

section Run
variable (K : Dev nD × Option (Fin 12) → ℕ) (c : Dev nD)

/-- What the body starts from, the landing buffers cut into their slots. -/
def runPre : sProp 𝕄 :=
  iprop((recs (A₀ m) K ∗ levAts L lv) ∗ payToks (F := F) c ∗ positions (F := F) c 0 ∗ credits (F := F) c ∗ owing (F := F) c (O₀ c)
    ∗ (∃ f, accPts (F := F) 0 c f) ∗ (∃ f, accPts (F := F) 1 c f) ∗ slots (F := F) c
    ∗ ((Memref.whole cc0_stg0_0).view.loc (c : Thread nD τ) ↦{fullShare} (insAt m c).x)
    ∗ ((Memref.whole cc0_stg1_0).view.loc (c : Thread nD τ) ↦{fullShare} (insAt m c).wq)
    ∗ ((Memref.whole cc0_stg2_0).view.loc (c : Thread nD τ) ↦{fullShare} (insAt m c).k)
    ∗ ((Memref.whole cc0_stg3_0).view.loc (c : Thread nD τ) ↦{fullShare} (insAt m c).v)
    ∗ ((Memref.whole cc0_stg4_0).view.loc (c : Thread nD τ) ↦{fullShare} (insAt m c).wo)
    ∗ (∃ f : Buf (Elt F) ((Memref.whole cc0_stg5_0).view.loc (c : Thread nD τ)), (Memref.whole cc0_stg5_0).view.loc (c : Thread nD τ) ↦{fullShare} f))

def runPost : sProp 𝕄 :=
  iprop(recs (A₀ m) K ∗ positions (F := F) c 1 ∗ owing (F := F) c 0
    ∗ (∃ f, accPts (F := F) 0 c f) ∗ (∃ f, accPts (F := F) 1 c f) ∗ slots (F := F) c
    ∗ ((Memref.whole cc0_stg0_0).view.loc (c : Thread nD τ) ↦{fullShare} (insAt m c).x)
    ∗ ((Memref.whole cc0_stg1_0).view.loc (c : Thread nD τ) ↦{fullShare} (insAt m c).wq)
    ∗ ((Memref.whole cc0_stg2_0).view.loc (c : Thread nD τ) ↦{fullShare} (insAt m c).k)
    ∗ ((Memref.whole cc0_stg3_0).view.loc (c : Thread nD τ) ↦{fullShare} (insAt m c).v)
    ∗ ((Memref.whole cc0_stg4_0).view.loc (c : Thread nD τ) ↦{fullShare} (insAt m c).wo)
    ∗ ((Memref.whole cc0_stg5_0).view.loc (c : Thread nD τ) ↦{fullShare} outAt m c))

/-- One device's run: from `runPre` the body ends in `runPost`. -/
theorem sound_body (Kt : PUnit → sProp 𝕄) :
    iprop(runPre m K c ∗ (runPost m K c -∗ |={Set.univ}=> Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) Kt := by
  unfold runPre payToks positions credits slots
  rw [bigSep_fin3, bigSep_steps, bigSep_cells, bigSep_steps, bigSep_steps]
  iintro ⟨⟨⟨#Hr, #Hlev⟩, ⟨⟨HtB0, HtB1, HtB2⟩, ⟨HtS00, HtR00⟩, ⟨HtS01, HtR01⟩, ⟨HtS02, HtR02⟩, ⟨HtS10, HtR10⟩, ⟨HtS11, HtR11⟩, ⟨HtS12, HtR12⟩⟩,
    ⟨HpB, Hp0, Hp1, Hp2, Hp3, Hp4, Hp5, Hp6, Hp7, Hp8, Hp9, Hp10, Hp11⟩,
    ⟨HcB, Hc00, Hc01, Hc02, Hc10, Hc11, Hc12⟩, HO, ⟨%fa, Ha⟩, ⟨%fb, Hb⟩, ⟨Hs00, Hs01, Hs02, Hs10, Hs11, Hs12⟩,
    Hx, Hwq, Hk, Hv, Hwo, ⟨%fo, Hout⟩⟩, Hcont⟩
  sl_exec
  unfold O₀
  iapply (step_signal (A₀ m) K c 0 _ (dev1_eq c) _ rfl) $$ [HO HtB0 Hs00 Hs12]
  · isplitr; · iexact Hr
    isplitl [HO]; · iexact HO
    isplitl [HtB0]; · iexact HtB0
    isplitl [Hs00]; · iexact Hs00
    iexact Hs12
  iintro HO
  sl_exec
  iapply (step_signal (A₀ m) K c 1 _ (dev2_eq c) _ rfl) $$ [HO HtB1 Hs01 Hs10]
  · isplitr; · iexact Hr
    isplitl [HO]; · iexact HO
    isplitl [HtB1]; · iexact HtB1
    isplitl [Hs01]; · iexact Hs01
    iexact Hs10
  iintro HO
  sl_exec
  iapply (step_signal (A₀ m) K c 2 _ (dev3_eq c) _ rfl) $$ [HO HtB2 Hs02 Hs11]
  · isplitr; · iexact Hr
    isplitl [HO]; · iexact HO
    isplitl [HtB2]; · iexact HtB2
    isplitl [Hs02]; · iexact Hs02
    iexact Hs11
  iintro HO
  sl_exec
  iapply (step_bar (A₀ m) K c (owed_gt c 6 1 (by decide) (by decide)) rfl) $$ [HO HcB HpB]
  · isplitr; · iexact Hr
    isplitr; · iexact Hlev
    isplitl [HO]; · iexact HO
    isplitl [HcB]; · iexact HcB
    iexact HpB
  unfold barPay
  iintro ⟨HO, HpB, ⟨Hn00, Hn12⟩, ⟨Hn01, Hn10⟩, ⟨Hn02, Hn11⟩⟩
  ihave Ha := (Entails.of_eq (accPts_0 c fa)) $$ Ha
  ihave Hb := (Entails.of_eq (accPts_1 c fb)) $$ Hb
  sl_exec
  have h24 : sound_body.sl.v24 m c = qMat (insAt m c) := congrArg₂ k0_pay2 (Memref.readAt_unit_zero (Elt F) cc0_stg0_0 (by decide) _ _) (Memref.readAt_unit_zero (Elt F) cc0_stg1_0 (by decide) _ _)
  have h28 : sound_body.sl.v28 m c = kMat (insAt m c) := congrArg (fun v => k0_pay4 (k0_pay3 v)) (Memref.readAt_unit_zero (Elt F) cc0_stg2_0 (by decide) _ _)
  have h32 : sound_body.sl.v32 m c = vMat (insAt m c) := congrArg k0_pay5 (Memref.readAt_unit_zero (Elt F) cc0_stg3_0 (by decide) _ _)
  have hr : sound_body.sl.r = sameBlk := rfl
  have he : sound_body.sl.v85 c = evenDev c := rfl
  iapply (step_send (A₀ m) K c 0 0 _ (dev4_eq c) (owed c 5)
      (src := Memref.whole cc0_scratch0) (dst := cutSlot (Memref.whole cc0_scratch2) ![0, 0, 0] inb_S3x136x256_S1x136x256_0_0_0)
      (qS := cutSem cc0_scratch4 ![0] inb_S3_S1_0) (qR := cutSem cc0_scratch5 ![0] inb_S3_S1_0) rfl rfl rfl rfl) $$ [HO Ha Hn00 HtS00 HtR00]
  · isplitr; · iexact Hr
    isplitl [HO]; · iexact HO
    isplitl [Ha]
    · unfold accAt
      iexists _; isplitr
      rotate_left
      · iapply (Entails.of_eq (accPts_0 c _).symm); iexact Ha
      · ipureintro
        refine agree_of_done _ _ (Ls := _) ?_ _
        refine done_second _ _ c 0 3 (by decide) rfl ?_ rfl rfl rfl
          (pay24_eq h24 h28 h32 hr he) (pay26_eq h24 h28 hr he) (zRow_of _) rfl rfl
        refine done_first _ _ c 0 2 (by decide) rfl ?_ rfl rfl rfl
          (pay20_eq h24 h28 h32 hr he) (pay21_eq h24 h28 hr he) (zRow_of _)
        refine done_second _ _ c 0 1 (by decide) rfl ?_ rfl rfl rfl
          (pay15_eq h24 h28 h32 hr he) (pay16_eq h24 h28 hr he) (zRow_of _) rfl rfl
        exact done_first _ _ c 0 0 (by decide) rfl (done_zero _ _ _) rfl rfl rfl
          (pay11_eq h24 h28 h32 hr he) (pay12_eq h24 h28 hr he) (zRow_of _)
    isplitl [Hn00]; · iexact Hn00
    isplitl [HtS00]; · iexact HtS00
    iexact HtR00
  iintro ⟨HO, HcS00⟩
  sl_exec
  iapply (step_send (A₀ m) K c 1 0 _ (dev5_eq c) (owed c 4)
      (src := Memref.whole cc0_scratch1) (dst := cutSlot (Memref.whole cc0_scratch3) ![0, 0, 0] inb_S3x136x256_S1x136x256_0_0_0)
      (qS := cutSem cc0_scratch6 ![0] inb_S3_S1_0) (qR := cutSem cc0_scratch7 ![0] inb_S3_S1_0) rfl rfl rfl rfl) $$ [HO Hb Hn10 HtS10 HtR10]
  · isplitr; · iexact Hr
    isplitl [HO]; · iexact HO
    isplitl [Hb]
    · unfold accAt
      iexists _; isplitr
      rotate_left
      · iapply (Entails.of_eq (accPts_1 c _).symm); iexact Hb
      · ipureintro
        refine agree_of_done _ _ (Ls := _) ?_ _
        refine done_second _ _ c 1 3 (by decide) rfl ?_ rfl rfl rfl
          (pay45_eq h24 h28 h32 hr he) (pay46_eq h24 h28 hr he) (zRow_of _) rfl rfl
        refine done_first _ _ c 1 2 (by decide) rfl ?_ rfl rfl rfl
          (pay39_eq h24 h28 h32 hr he) (pay40_eq h24 h28 hr he) (zRow_of _)
        refine done_second _ _ c 1 1 (by decide) rfl ?_ rfl rfl rfl
          (pay33_eq h24 h28 h32 hr he) (pay34_eq h24 h28 hr he) (zRow_of _) rfl rfl
        exact done_first _ _ c 1 0 (by decide) rfl (done_zero _ _ _) rfl rfl rfl
          (pay29_eq h24 h28 h32 hr he) (pay30_eq h24 h28 hr he) (zRow_of _)
    isplitl [Hn10]; · iexact Hn10
    isplitl [HtS10]; · iexact HtS10
    iexact HtR10
  iintro ⟨HO, HcS10⟩
  sl_exec
  iapply (step_wait_send (A₀ m) K c 0 0 (owed_gt c 4 _ (by decide) (by decide)) (q := cutSem cc0_scratch4 ![0] inb_S3_S1_0)
      (src := cutSlot (Memref.whole cc0_scratch2) ![0, 0, 0] inb_S3x136x256_S1x136x256_0_0_0) (dst := Memref.whole cc0_scratch0) rfl rfl)
    $$ [HO HcS00 Hp0]
  · isplitr; · iexact Hr
    isplitr; · iexact Hlev
    isplitl [HO]; · iexact HO
    isplitl [HcS00]; · iexact HcS00
    iexact Hp0
  iintro ⟨HO, Hp0, Ha⟩
  unfold accAt
  icases Ha with ⟨%fa1, %ha1, Ha⟩
  ihave Ha := (Entails.of_eq (accPts_0 c fa1)) $$ Ha
  sl_exec
  iapply (step_wait_recv (A₀ m) K c 0 0 (owed_gt c 4 _ (by decide) (by decide)) (q := cutSem cc0_scratch5 ![0] inb_S3_S1_0)
      (src := Memref.whole cc0_scratch0) (dst := cutSlot (Memref.whole cc0_scratch2) ![0, 0, 0] inb_S3x136x256_S1x136x256_0_0_0) rfl rfl)
    $$ [HO Hc00 Hp3]
  · isplitr; · iexact Hr
    isplitr; · iexact Hlev
    isplitl [HO]; · iexact HO
    isplitl [Hc00]; · iexact Hc00
    iexact Hp3
  iintro ⟨HO, Hp3, Hs00⟩
  unfold slotAt
  icases Hs00 with ⟨%fs00, %hs00, Hs00⟩
  ihave Hs00 := (Entails.of_eq (slotPts_00 c fs00)) $$ Hs00
  have hS := slab_sub (Memref.whole cc0_scratch2) ![0, 0, 0] inb_S3x136x256_S1x136x256_0_0_0
  sl_exec
  iapply (step_send (A₀ m) K c 0 1 _ (dev6_eq c) (owed c 3)
      (src := Memref.whole cc0_scratch0) (dst := cutSlot (Memref.whole cc0_scratch2) ![1, 0, 0] inb_S3x136x256_S1x136x256_1_0_0)
      (qS := cutSem cc0_scratch4 ![1] inb_S3_S1_1) (qR := cutSem cc0_scratch5 ![1] inb_S3_S1_1) rfl rfl rfl rfl) $$ [HO Ha Hn01 HtS01 HtR01]
  · isplitr; · iexact Hr
    isplitl [HO]; · iexact HO
    isplitl [Ha]
    · unfold accAt
      iexists _; isplitr
      rotate_left
      · iapply (Entails.of_eq (accPts_0 c _).symm); iexact Ha
      · ipureintro
        exact agree_store (A₀ m) c 0 0 ha1 hs00 rfl (sum_eq _ _ rfl _ _)
    isplitl [Hn01]; · iexact Hn01
    isplitl [HtS01]; · iexact HtS01
    iexact HtR01
  iintro ⟨HO, HcS01⟩
  sl_exec
  iapply (step_wait_send (A₀ m) K c 1 0 (owed_gt c 3 _ (by decide) (by decide)) (q := cutSem cc0_scratch6 ![0] inb_S3_S1_0)
      (src := cutSlot (Memref.whole cc0_scratch3) ![0, 0, 0] inb_S3x136x256_S1x136x256_0_0_0) (dst := Memref.whole cc0_scratch1) rfl rfl)
    $$ [HO HcS10 Hp6]
  · isplitr; · iexact Hr
    isplitr; · iexact Hlev
    isplitl [HO]; · iexact HO
    isplitl [HcS10]; · iexact HcS10
    iexact Hp6
  iintro ⟨HO, Hp6, Hb⟩
  unfold accAt
  icases Hb with ⟨%fb1, %hb1, Hb⟩
  ihave Hb := (Entails.of_eq (accPts_1 c fb1)) $$ Hb
  sl_exec
  iapply (step_wait_recv (A₀ m) K c 1 0 (owed_gt c 3 _ (by decide) (by decide)) (q := cutSem cc0_scratch7 ![0] inb_S3_S1_0)
      (src := Memref.whole cc0_scratch1) (dst := cutSlot (Memref.whole cc0_scratch3) ![0, 0, 0] inb_S3x136x256_S1x136x256_0_0_0) rfl rfl)
    $$ [HO Hc10 Hp9]
  · isplitr; · iexact Hr
    isplitr; · iexact Hlev
    isplitl [HO]; · iexact HO
    isplitl [Hc10]; · iexact Hc10
    iexact Hp9
  iintro ⟨HO, Hp9, Hs10⟩
  unfold slotAt
  icases Hs10 with ⟨%fs10, %hs10, Hs10⟩
  ihave Hs10 := (Entails.of_eq (slotPts_10 c fs10)) $$ Hs10
  have hS10 := slab_sub (Memref.whole cc0_scratch3) ![0, 0, 0] inb_S3x136x256_S1x136x256_0_0_0
  sl_exec
  iapply (step_send (A₀ m) K c 1 1 _ (dev7_eq c) (owed c 2)
      (src := Memref.whole cc0_scratch1) (dst := cutSlot (Memref.whole cc0_scratch3) ![1, 0, 0] inb_S3x136x256_S1x136x256_1_0_0)
      (qS := cutSem cc0_scratch6 ![1] inb_S3_S1_1) (qR := cutSem cc0_scratch7 ![1] inb_S3_S1_1) rfl rfl rfl rfl) $$ [HO Hb Hn11 HtS11 HtR11]
  · isplitr; · iexact Hr
    isplitl [HO]; · iexact HO
    isplitl [Hb]
    · unfold accAt
      iexists _; isplitr
      rotate_left
      · iapply (Entails.of_eq (accPts_1 c _).symm); iexact Hb
      · ipureintro
        exact agree_store (A₀ m) c 1 0 hb1 hs10 rfl (sum_eq _ _ rfl _ _)
    isplitl [Hn11]; · iexact Hn11
    isplitl [HtS11]; · iexact HtS11
    iexact HtR11
  iintro ⟨HO, HcS11⟩
  sl_exec
  iapply (step_wait_send (A₀ m) K c 0 1 (owed_gt c 2 _ (by decide) (by decide)) (q := cutSem cc0_scratch4 ![1] inb_S3_S1_1)
      (src := cutSlot (Memref.whole cc0_scratch2) ![1, 0, 0] inb_S3x136x256_S1x136x256_1_0_0) (dst := Memref.whole cc0_scratch0) rfl rfl)
    $$ [HO HcS01 Hp1]
  · isplitr; · iexact Hr
    isplitr; · iexact Hlev
    isplitl [HO]; · iexact HO
    isplitl [HcS01]; · iexact HcS01
    iexact Hp1
  iintro ⟨HO, Hp1, Ha⟩
  unfold accAt
  icases Ha with ⟨%fa2, %ha2, Ha⟩
  ihave Ha := (Entails.of_eq (accPts_0 c fa2)) $$ Ha
  sl_exec
  iapply (step_wait_recv (A₀ m) K c 0 1 (owed_gt c 2 _ (by decide) (by decide)) (q := cutSem cc0_scratch5 ![1] inb_S3_S1_1)
      (src := Memref.whole cc0_scratch0) (dst := cutSlot (Memref.whole cc0_scratch2) ![1, 0, 0] inb_S3x136x256_S1x136x256_1_0_0) rfl rfl)
    $$ [HO Hc01 Hp4]
  · isplitr; · iexact Hr
    isplitr; · iexact Hlev
    isplitl [HO]; · iexact HO
    isplitl [Hc01]; · iexact Hc01
    iexact Hp4
  iintro ⟨HO, Hp4, Hs01⟩
  unfold slotAt
  icases Hs01 with ⟨%fs01, %hs01, Hs01⟩
  ihave Hs01 := (Entails.of_eq (slotPts_01 c fs01)) $$ Hs01
  have hS01 := slab_sub (Memref.whole cc0_scratch2) ![1, 0, 0] inb_S3x136x256_S1x136x256_1_0_0
  sl_exec
  iapply (step_send (A₀ m) K c 0 2 _ (dev8_eq c) (owed c 1)
      (src := Memref.whole cc0_scratch0) (dst := cutSlot (Memref.whole cc0_scratch2) ![2, 0, 0] inb_S3x136x256_S1x136x256_2_0_0)
      (qS := cutSem cc0_scratch4 ![2] inb_S3_S1_2) (qR := cutSem cc0_scratch5 ![2] inb_S3_S1_2) rfl rfl rfl rfl) $$ [HO Ha Hn02 HtS02 HtR02]
  · isplitr; · iexact Hr
    isplitl [HO]; · iexact HO
    isplitl [Ha]
    · unfold accAt
      iexists _; isplitr
      rotate_left
      · iapply (Entails.of_eq (accPts_0 c _).symm); iexact Ha
      · ipureintro
        exact agree_store (A₀ m) c 0 1 ha2 hs01 rfl (sum_eq _ _ rfl _ _)
    isplitl [Hn02]; · iexact Hn02
    isplitl [HtS02]; · iexact HtS02
    iexact HtR02
  iintro ⟨HO, HcS02⟩
  sl_exec
  iapply (step_wait_send (A₀ m) K c 1 1 (owed_gt c 1 _ (by decide) (by decide)) (q := cutSem cc0_scratch6 ![1] inb_S3_S1_1)
      (src := cutSlot (Memref.whole cc0_scratch3) ![1, 0, 0] inb_S3x136x256_S1x136x256_1_0_0) (dst := Memref.whole cc0_scratch1) rfl rfl)
    $$ [HO HcS11 Hp7]
  · isplitr; · iexact Hr
    isplitr; · iexact Hlev
    isplitl [HO]; · iexact HO
    isplitl [HcS11]; · iexact HcS11
    iexact Hp7
  iintro ⟨HO, Hp7, Hb⟩
  unfold accAt
  icases Hb with ⟨%fb2, %hb2, Hb⟩
  ihave Hb := (Entails.of_eq (accPts_1 c fb2)) $$ Hb
  sl_exec
  iapply (step_wait_recv (A₀ m) K c 1 1 (owed_gt c 1 _ (by decide) (by decide)) (q := cutSem cc0_scratch7 ![1] inb_S3_S1_1)
      (src := Memref.whole cc0_scratch1) (dst := cutSlot (Memref.whole cc0_scratch3) ![1, 0, 0] inb_S3x136x256_S1x136x256_1_0_0) rfl rfl)
    $$ [HO Hc11 Hp10]
  · isplitr; · iexact Hr
    isplitr; · iexact Hlev
    isplitl [HO]; · iexact HO
    isplitl [Hc11]; · iexact Hc11
    iexact Hp10
  iintro ⟨HO, Hp10, Hs11⟩
  unfold slotAt
  icases Hs11 with ⟨%fs11, %hs11, Hs11⟩
  ihave Hs11 := (Entails.of_eq (slotPts_11 c fs11)) $$ Hs11
  have hS11 := slab_sub (Memref.whole cc0_scratch3) ![1, 0, 0] inb_S3x136x256_S1x136x256_1_0_0
  sl_exec
  iapply (step_send (A₀ m) K c 1 2 _ (dev9_eq c) (owed c 0)
      (src := Memref.whole cc0_scratch1) (dst := cutSlot (Memref.whole cc0_scratch3) ![2, 0, 0] inb_S3x136x256_S1x136x256_2_0_0)
      (qS := cutSem cc0_scratch6 ![2] inb_S3_S1_2) (qR := cutSem cc0_scratch7 ![2] inb_S3_S1_2) rfl rfl rfl rfl) $$ [HO Hb Hn12 HtS12 HtR12]
  · isplitr; · iexact Hr
    isplitl [HO]; · iexact HO
    isplitl [Hb]
    · unfold accAt
      iexists _; isplitr
      rotate_left
      · iapply (Entails.of_eq (accPts_1 c _).symm); iexact Hb
      · ipureintro
        exact agree_store (A₀ m) c 1 1 hb2 hs11 rfl (sum_eq _ _ rfl _ _)
    isplitl [Hn12]; · iexact Hn12
    isplitl [HtS12]; · iexact HtS12
    iexact HtR12
  iintro ⟨HO, HcS12⟩
  sl_exec
  iapply (step_wait_send (A₀ m) K c 0 2 (owed_gt c 0 _ (by decide) (by decide)) (q := cutSem cc0_scratch4 ![2] inb_S3_S1_2)
      (src := cutSlot (Memref.whole cc0_scratch2) ![2, 0, 0] inb_S3x136x256_S1x136x256_2_0_0) (dst := Memref.whole cc0_scratch0) rfl rfl)
    $$ [HO HcS02 Hp2]
  · isplitr; · iexact Hr
    isplitr; · iexact Hlev
    isplitl [HO]; · iexact HO
    isplitl [HcS02]; · iexact HcS02
    iexact Hp2
  iintro ⟨HO, Hp2, Ha⟩
  unfold accAt
  icases Ha with ⟨%fa3, %ha3, Ha⟩
  ihave Ha := (Entails.of_eq (accPts_0 c fa3)) $$ Ha
  sl_exec
  iapply (step_wait_recv (A₀ m) K c 0 2 (owed_gt c 0 _ (by decide) (by decide)) (q := cutSem cc0_scratch5 ![2] inb_S3_S1_2)
      (src := Memref.whole cc0_scratch0) (dst := cutSlot (Memref.whole cc0_scratch2) ![2, 0, 0] inb_S3x136x256_S1x136x256_2_0_0) rfl rfl)
    $$ [HO Hc02 Hp5]
  · isplitr; · iexact Hr
    isplitr; · iexact Hlev
    isplitl [HO]; · iexact HO
    isplitl [Hc02]; · iexact Hc02
    iexact Hp5
  iintro ⟨HO, Hp5, Hs02⟩
  unfold slotAt
  icases Hs02 with ⟨%fs02, %hs02, Hs02⟩
  ihave Hs02 := (Entails.of_eq (slotPts_02 c fs02)) $$ Hs02
  have hS02 := slab_sub (Memref.whole cc0_scratch2) ![2, 0, 0] inb_S3x136x256_S1x136x256_2_0_0
  sl_exec
  iapply (step_wait_send (A₀ m) K c 1 2 (owed_gt c 0 _ (by decide) (by decide)) (q := cutSem cc0_scratch6 ![2] inb_S3_S1_2)
      (src := cutSlot (Memref.whole cc0_scratch3) ![2, 0, 0] inb_S3x136x256_S1x136x256_2_0_0) (dst := Memref.whole cc0_scratch1) rfl rfl)
    $$ [HO HcS12 Hp8]
  · isplitr; · iexact Hr
    isplitr; · iexact Hlev
    isplitl [HO]; · iexact HO
    isplitl [HcS12]; · iexact HcS12
    iexact Hp8
  iintro ⟨HO, Hp8, Hb⟩
  unfold accAt
  icases Hb with ⟨%fb3, %hb3, Hb⟩
  ihave Hb := (Entails.of_eq (accPts_1 c fb3)) $$ Hb
  sl_exec
  iapply (step_wait_recv (A₀ m) K c 1 2 (owed_gt c 0 _ (by decide) (by decide)) (q := cutSem cc0_scratch7 ![2] inb_S3_S1_2)
      (src := Memref.whole cc0_scratch1) (dst := cutSlot (Memref.whole cc0_scratch3) ![2, 0, 0] inb_S3x136x256_S1x136x256_2_0_0) rfl rfl)
    $$ [HO Hc12 Hp11]
  · isplitr; · iexact Hr
    isplitr; · iexact Hlev
    isplitl [HO]; · iexact HO
    isplitl [Hc12]; · iexact Hc12
    iexact Hp11
  iintro ⟨HO, Hp11, Hs12⟩
  unfold slotAt
  icases Hs12 with ⟨%fs12, %hs12, Hs12⟩
  ihave Hs12 := (Entails.of_eq (slotPts_12 c fs12)) $$ Hs12
  have hS12 := slab_sub (Memref.whole cc0_scratch3) ![2, 0, 0] inb_S3x136x256_S1x136x256_2_0_0
  sl_exec
  have hout₀ : sound_body.sl.v469 m c fa3 fs02 = finish (Acc (A₀ m) 0 3 c) (insAt m c).wo :=
    finish_of (A₀ m) c 0 ha3 hs02 (sum_eq _ _ rfl _ _)
      (top_read _ rfl _ _ _ rfl _) (row_read _ rfl _ _ _ 0 rfl _) (row_read _ rfl _ _ _ 1 rfl _) (row_read _ rfl _ _ _ 2 rfl _) (row_read _ rfl _ _ _ 3 rfl _)
      (Memref.readAt_unit_zero (Elt F) cc0_stg4_0 (by decide) _ _)
  have hout₁ : k0_pay1 (sound_body.sl.v488 fb3 fs12) (sound_body.sl.v494 fb3 fs12) (sound_body.sl.v500 fb3 fs12)
      (sound_body.sl.v506 fb3 fs12) (sound_body.sl.v507 fb3 fs12)
      ((Memref.whole cc0_stg4_0).view.readAt (Elt F) (Rect.unit ![0, 0] S256x512.size inb_S256x512_S256x512_0_0).toLoadRect (insAt m c).wo)
      = finish (Acc (A₀ m) 1 3 c) (insAt m c).wo :=
    finish_of' (A₀ m) c 1 hb3 hs12 (sum_eq _ _ rfl _ _) rfl rfl rfl rfl
      (top_read _ rfl _ _ _ rfl _) (row_read _ rfl _ _ _ 0 rfl _) (row_read _ rfl _ _ _ 1 rfl _) (row_read _ rfl _ _ _ 2 rfl _) (row_read _ rfl _ _ _ 3 rfl _)
      (Memref.readAt_unit_zero (Elt F) cc0_stg4_0 (by decide) _ _)
  ihave Hout := (Entails.of_eq (congrArg (fun f => ((Memref.whole cc0_stg5_0).view.loc (c : Thread nD τ) ↦{fullShare} f : sProp 𝕄))
    (out_stores (a := fun β => Acc (A₀ m) β 3 c) fo rfl rfl _ _ hout₀ hout₁))) $$ Hout
  rw [wp_ret]
  iapply Hcont
  unfold runPost positions slots
  rw [bigSep_cells, bigSep_steps]
  isplitr; · iexact Hr
  isplitl [HpB Hp0 Hp1 Hp2 Hp3 Hp4 Hp5 Hp6 Hp7 Hp8 Hp9 Hp10 Hp11]
  · isplitl [HpB]; · iexact HpB
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    isplitl [Hp8]; · iexact Hp8
    isplitl [Hp9]; · iexact Hp9
    isplitl [Hp10]; · iexact Hp10
    iexact Hp11
  isplitl [HO]; · unfold owed; iexact HO
  isplitl [Ha]; · iexists _; iapply (Entails.of_eq (accPts_0 c _).symm); iexact Ha
  isplitl [Hb]; · iexists _; iapply (Entails.of_eq (accPts_1 c _).symm); iexact Hb
  isplitl [Hs00 Hs01 Hs02 Hs10 Hs11 Hs12]
  · isplitl [Hs00]
    · unfold slotAny; iexists _; iapply (Entails.of_eq (slotPts_00 c fs00).symm); iexact Hs00
    isplitl [Hs01]
    · unfold slotAny; iexists _; iapply (Entails.of_eq (slotPts_01 c fs01).symm); iexact Hs01
    isplitl [Hs02]
    · unfold slotAny; iexists _; iapply (Entails.of_eq (slotPts_02 c fs02).symm); iexact Hs02
    isplitl [Hs10]
    · unfold slotAny; iexists _; iapply (Entails.of_eq (slotPts_10 c fs10).symm); iexact Hs10
    isplitl [Hs11]
    · unfold slotAny; iexists _; iapply (Entails.of_eq (slotPts_11 c fs11).symm); iexact Hs11
    unfold slotAny; iexists _; iapply (Entails.of_eq (slotPts_12 c fs12).symm); iexact Hs12
  isplitl [Hx]; · iexact Hx
  isplitl [Hwq]; · iexact Hwq
  isplitl [Hk]; · iexact Hk
  isplitl [Hv]; · iexact Hv
  isplitl [Hwo]; · iexact Hwo
  iexact Hout

end Run

end Cert.KernelIdeal.Exch

end
-- ==== Proof.Ghost.lean ====
/-
# The exchange's resources at launch

What the launch deals each device: the invariants of all the cells, the device's positions at its own cells, the tokens
of the payments it makes, and the credit for what the others owe it.
-/
module

public import proofs.«01_k».proof.Proof.Body

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells and the tokens -/

theorem csem_injective : Function.Injective csem := by decide
theorem kcell_injective : Function.Injective (kcell : Dev nD × Option (Fin 12) → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- Every cell of the exchange. -/
def exchCells : Finset (GSem nD τ sig) := Finset.univ.map ⟨kcell, kcell_injective⟩

/-- A token's name on one device: a barrier duty, a send cell's duty, a receive cell's duty. -/
abbrev Tk : Type := Fin 3 ⊕ ((Fin 2 × Fin 3) ⊕ (Fin 2 × Fin 3))
/-- The semaphore and the duty a token is for. -/
def tkAt : Tk → Option (Fin 12) × Fin 3
  | .inl k => (none, k)
  | .inr (.inl x) => (some (sendN x.1 x.2), 0)
  | .inr (.inr x) => (some (recvN x.1 x.2), 0)
theorem tkAt_injective : Function.Injective tkAt := by decide
def tokOf (ct : Dev nD × Tk) : GSem nD τ sig × ℕ × Fin 3 := (kcell (ct.1, (tkAt ct.2).1), 0, (tkAt ct.2).2)
theorem tokOf_injective : Function.Injective tokOf := by
  rintro ⟨c, t⟩ ⟨c', t'⟩ h
  have h1 : (c, (tkAt t).1) = (c', (tkAt t').1) := kcell_injective (congrArg Prod.fst h)
  have h2 : (tkAt t).2 = (tkAt t').2 := congrArg (fun x : GSem nD τ sig × ℕ × Fin 3 => x.2.2) h
  have h3 : t = t' := tkAt_injective (Prod.ext (congrArg Prod.snd h1) h2)
  rw [show c = c' from congrArg Prod.fst h1, h3]
/-- Every payment's token. -/
def exchToks : Finset (GSem nD τ sig × ℕ × Fin 3) := Finset.univ.map ⟨tokOf, tokOf_injective⟩

def u₀ : UU :=
  (initOf (Pipeline.cells cfgs cellOf_inj) (Pipeline.launchToks cfgs cellOf_inj), initOf exchCells exchToks)

/-- The tokens of the payments to device `c`'s own cells. -/
def toks (c : Dev nD) : sProp 𝕄 :=
  iprop((bigSep Finset.univ fun k : Fin 3 => dutyTok ER (barCell c) 0 k)
    ∗ (bigSep Finset.univ fun x : Fin 2 × Fin 3 => dutyTok ER (sendCell x.1 x.2 c) 0 (0 : Fin 3))
    ∗ bigSep Finset.univ fun x : Fin 2 × Fin 3 => dutyTok ER (recvCell x.1 x.2 c) 0 (0 : Fin 3))

/-- What the launch deals device `c` first: its cells' states, its positions and its cells' tokens. -/
def G (c : Dev nD) : sProp 𝕄 :=
  iprop((bigSep Finset.univ fun k : Option (Fin 12) => roundState ER (exch (F := F) (A₀ m)) (kcell (c, k)) 0)
    ∗ (bigSep Finset.univ fun k : Option (Fin 12) => iprop(atPos ER (kcell (c, k)) 0 ∅ 0 ∗ reached ER (kcell (c, k)) 0)) ∗ toks (F := F) c)

/-- What device `c` has after every cell's invariant is set up and the tokens are dealt to those who pay. -/
def G' (c : Dev nD) : sProp 𝕄 := iprop(∃ K, recs (A₀ m) K ∗ payToks (F := F) c ∗ positions (F := F) c 0)

theorem fund_exch : BI.own (ER (initOf exchCells exchToks)) ⊢ (|==> bigSep Finset.univ (G m) : sProp 𝕄) := by
  have hX (Φ : GSem nD τ sig → sProp 𝕄) : bigSep exchCells Φ = bigSep Finset.univ fun c : Dev nD => bigSep Finset.univ fun k : Option (Fin 12) => Φ (kcell (c, k)) := by
    unfold exchCells; rw [bigSep_map, bigSep_univ_prod]; rfl
  have hT : bigSep exchToks (fun x => (dutyTok ER x.1 x.2.1 x.2.2 : sProp 𝕄)) = bigSep Finset.univ fun c : Dev nD => toks (F := F) c := by
    unfold exchToks; rw [bigSep_map, bigSep_univ_prod]
    exact bigSep_congr fun c _ => by unfold toks; rw [bigSep_univ_sum, bigSep_univ_sum]; rfl
  iintro HX
  imod (Rounds.fund ER (exch (F := F) (A₀ m)) exchCells exchToks) $$ HX with ⟨Hst, Hr, Hat, Htok⟩
  imodintro
  ihave Hst' := (Entails.of_eq (hX fun g => roundState ER (exch (F := F) (A₀ m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] [Named F] in
/-- The transfer semaphores are the kernel's own twelve. -/
theorem ownSems0_eq (c : Dev nD) : (Pipeline.ownSems0 (Ix := Unit) (Name := ℕ) (U := UU) (Lvl := ℕ) (Val := Elt F) (τ := τ) osem c : sProp 𝕄)
    = bigSep Finset.univ fun j : Fin 12 => semVal (kcell (c, some j)) 0 := rfl
omit [FloatOps F] [Named F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] [Named F] in
theorem bigSep_twelve (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
omit [FloatOps F] [Named F] in
/-- All thirteen counters of device `c` at zero. -/
theorem sems0_eq (c : Dev nD) :
    (bigSep Finset.univ fun k : Option (Fin 12) => semVal (kcell (c, k)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_cells, bigSep_twelve]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (exch (F := F) (A₀ m)) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Option (Fin 12) => semVal (kcell (c, k)) 0) ∗ bigSep Finset.univ fun k : Option (Fin 12) => roundState ER (exch (F := F) (A₀ m)) (kcell (c, k)) 0)
      ⊢ (|={Set.univ}=> bigSep Finset.univ fun k => iprop(∃ κ : ℕ, cellInv ER (exch (F := F) (A₀ m)) κ (kcell (c, k))) : sProp 𝕄) from by
        rw [← bigSep_sep']
        exact (bigSep_mono fun k _ => (Rounds.body_intro ER (exch (F := F) (A₀ m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Partnership, as a rearrangement of the devices. -/
def peerE (k : Fin 3) : Dev nD ≃ Dev nD := ⟨peer k, peer k, peer_peer k, peer_peer k⟩

omit [FloatOps F] [Named F] in
/-- A family over the devices, dealt to each device's partners. -/
theorem deal {B : Type} [Fintype B] [DecidableEq B] (k : B → Fin 3) (Φ : Dev nD → B → sProp 𝕄) :
    (bigSep Finset.univ fun c : Dev nD => bigSep Finset.univ fun b => Φ c b)
      = bigSep Finset.univ fun c : Dev nD => bigSep Finset.univ fun b => Φ (peer (k b) c) b := by
  rw [bigSep_univ_comm (fun c b => Φ c b), bigSep_univ_comm (fun c b => Φ (peer (k b) c) b)]
  exact bigSep_congr fun b _ => bigSep_univ_equiv (peerE (k b)) fun c => Φ c b

omit [FloatOps F] [Named F] in
/-- The tokens, dealt to those who pay. -/
theorem toks_around : (bigSep Finset.univ fun c : Dev nD => (toks (F := F) c : sProp 𝕄)) ⊢ bigSep Finset.univ fun c : Dev nD => payToks (F := F) c := by
  unfold toks payToks
  simp only [bigSep_sep']
  rw [deal (fun k => k) fun c k => (dutyTok ER (barCell c) 0 k : sProp 𝕄),
    deal (fun x : Fin 2 × Fin 3 => ord x.1 x.2) fun c x => (dutyTok ER (recvCell x.1 x.2 c) 0 (0 : Fin 3) : sProp 𝕄)]

omit [FloatOps F] [Named F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Option (Fin 12) → ℕ) (c : Dev nD) :
    iprop(recs (A₀ m) K ∗ positions (F := F) c 0 ∗ payToks (F := F) c) ⊢ G' m c := by
  unfold G'
  iintro ⟨HR, Hp, Ht⟩
  iexists K
  isplitl [HR]; · iexact HR
  isplitl [Ht] <;> iassumption

theorem regroup :
    (bigSep Finset.univ fun c : Dev nD => iprop((bigSep Finset.univ fun k => iprop(∃ κ : ℕ, cellInv ER (exch (F := F) (A₀ m)) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × Option (Fin 12) => iprop(∃ κ : ℕ, cellInv ER (exch (F := F) (A₀ m)) κ (kcell ck))),
    bigSep_congr (s := Finset.univ) (fun (c : Dev nD) _ => bigSep_sep' Finset.univ (fun k : Option (Fin 12) => (atPos ER (kcell (c, k)) 0 ∅ 0 : sProp 𝕄)) (fun k => reached ER (kcell (c, k)) 0)),
    bigSep_sep', ← bigSep_univ_prod (fun ck : Dev nD × Option (Fin 12) => (reached ER (kcell ck) 0 : sProp 𝕄))]
  iintro ⟨HI, ⟨Hat, #HR⟩, Htok⟩
  ihave HK := (BI.bigSep_exists_pi Finset.univ (fun (ck : Dev nD × Option (Fin 12)) (κ : ℕ) => (cellInv ER (exch (F := F) (A₀ m)) κ (kcell ck) : sProp 𝕄))) $$ HI
  icases HK with ⟨%K, #HI⟩
  ihave Htk := (toks_around (F := F)) $$ Htok
  iapply (bigSep_with_persistent (R := recs (A₀ m) K) fun c _ => ghost_intro m K c)
  isplitr
  · unfold recs; isplitl; · iexact HI
    iexact HR
  · rw [bigSep_sep']
    isplitl [Hat]; · unfold positions; iexact Hat
    iexact Htk

/-- The one step that sets up all the devices' cells together. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem tally_at (a b : Dev nD × Option (Fin 12)) (n : ℕ) :
    (tallyAt (kcell a) () n : CellTallies nD τ sig Unit) (kcell b) () = if b = a then n else 0 := by
  rw [tallyAt_apply]
  by_cases h : b = a
  · rw [if_pos h, h, if_pos ⟨rfl, rfl⟩]
  · rw [if_neg h, if_neg fun h' => h (kcell_injective h'.1)]

/-- What the `r`-th transfer of `d` pays a cell of `c`. -/
theorem pay_at (d c : Dev nD) (r : ℕ) (k : Option (Fin 12)) :
    pay d r (kcell (c, k)) () = if c = peer (ord (stepOf r).1 (stepOf r).2) d ∧ k = some (recvN (stepOf r).1 (stepOf r).2) then N else 0 :=
  (tally_at (_, some (recvN (stepOf r).1 (stepOf r).2)) (c, k) N).trans (by simp only [Prod.mk.injEq]; rfl)
theorem bar_at (d c : Dev nD) (j k) : (tallyAt (barCell (peer j d)) () 1 : CellTallies nD τ sig Unit) (kcell (c, k)) ()
    = if c = peer j d ∧ k = none then 1 else 0 :=
  (tally_at (_, none) (c, k) 1).trans (by simp only [Prod.mk.injEq]; rfl)

/-- What device `d` owes the cells of device `c`. -/
theorem owed_at (d c : Dev nD) (k) : O₀ d (kcell (c, k)) ()
    = 0 + pay d 5 (kcell (c, k)) () + pay d 4 (kcell (c, k)) () + pay d 3 (kcell (c, k)) () + pay d 2 (kcell (c, k)) () + pay d 1 (kcell (c, k)) () + pay d 0 (kcell (c, k)) ()
      + (tallyAt (barCell (peer 2 d)) () 1 : CellTallies nD τ sig Unit) (kcell (c, k)) ()
      + (tallyAt (barCell (peer 1 d)) () 1 : CellTallies nD τ sig Unit) (kcell (c, k)) ()
      + (tallyAt (barCell (peer 0 d)) () 1 : CellTallies nD τ sig Unit) (kcell (c, k)) () := rfl

theorem eq_peer (c d : Dev nD) (k : Fin 3) : (c = peer k d) = (d = peer k c) :=
  propext ⟨fun h => by rw [h, peer_peer], fun h => by rw [h, peer_peer]⟩

theorem owed_bar (d c : Dev nD) : O₀ d (barCell c) ()
    = (if d = peer 2 c then 1 else 0) + (if d = peer 1 c then 1 else 0) + (if d = peer 0 c then 1 else 0) := by
  refine (owed_at d c none).trans ?_
  simp only [pay_at, bar_at, reduceCtorEq, and_false, if_false, and_true, eq_peer c d, Nat.zero_add, Nat.add_zero]

theorem owed_recv (β : Fin 2) (s : Fin 3) (d c : Dev nD) : O₀ d (recvCell β s c) () = if d = peer (ord β s) c then N else 0 := by
  refine (owed_at d c (some (recvN β s))).trans ?_
  simp only [pay_at, bar_at, reduceCtorEq, and_false, if_false, eq_peer c d, Nat.add_zero, Nat.zero_add, Option.some.injEq]
  fin_cases β <;> fin_cases s <;> simp [stepOf, recvN]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ _ fun _ => 1, Finset.sum_ite_eq' Finset.univ _ fun _ => 1, Finset.sum_ite_eq' Finset.univ _ fun _ => 1,
    if_pos (Finset.mem_univ _), if_pos (Finset.mem_univ _), if_pos (Finset.mem_univ _)]

theorem launch_recv (β : Fin 2) (s : Fin 3) (c : Dev nD) :
    tallyOn (recvCell β s c) (launchCredit (Pipeline.owing O₀) 0 (recvCell β s c)) = (tallyAt (recvCell β s c) () N : CellTallies nD τ sig Unit) := by
  unfold tallyAt; refine congrArg _ (Finsupp.ext fun u => ?_); cases u
  rw [Pipeline.launchCredit_owing, Finsupp.single_eq_same, Finset.sum_congr rfl fun d _ => owed_recv β s d c, Finset.sum_ite_eq' Finset.univ _ fun _ => N,
    if_pos (Finset.mem_univ _)]

/-- The receive semaphores. -/
def recvLoc (x : Fin 2 × Fin 3) : SemLoc sig := .dma (recvS x.1 x.2)
theorem recvLoc_injective : Function.Injective recvLoc := by decide

omit [FloatOps F] [Named F] in
theorem creds (c : Dev nD) : (Pipeline.launchCred O₀ c : sProp 𝕄) ⊢ credits (F := F) c := by
  unfold Pipeline.launchCred credits
  rw [bigSep_univ_at _ (SemLoc.reg barS), launch_bar]
  refine sep_mono_right ?_
  refine (bigSep_subset (t := Finset.univ.map ⟨recvLoc, recvLoc_injective⟩) fun sm hsm => ?_).trans ?_
  · obtain ⟨x, -, rfl⟩ := Finset.mem_map.mp hsm
    exact Finset.mem_erase.mpr ⟨(fun hx => nomatch hx), Finset.mem_univ _⟩
  · rw [bigSep_map]
    exact Entails.of_eq (bigSep_congr fun x _ => congrArg cred (launch_recv x.1 x.2 c))

end Cert.KernelIdeal.Exch

end
-- ==== Proof.KernelRun.lean ====
/-
# The kernel's run

All eight devices together: from any memory with zero counters the kernel ends, each device's output array holding its
output block, its arguments unchanged and every counter at zero.
-/
module

public import proofs.«01_k».proof.Proof.Ghost
public import Idealize.ShloMosaic.Lib.Pipeline.CollectiveSegs

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The landing buffers, cut into slots -/

omit [FloatOps F] [Named F] in
theorem cut_any (M : Memref sig .tc .vmem S3x136x256 .bf16) (off : Fin 3 → ℕ) (inb : ∀ a, off a + S1x136x256.size a ≤ S3x136x256.size a) (c : Dev nD) :
    iprop(∃ f, cutPts (F := F) M off inb c f)
      = iprop(∃ f : Buf (Elt F) (M.view.loc (c : Thread nD τ)),
          M.view.loc (c : Thread nD τ) ↦[(M.view.slice (Rect.unit (s := S3x136x256) off S1x136x256.size inb)).set]{fullShare} f) := by
  unfold cutPts; rw [Memref.set_view_squeeze]

omit [FloatOps F] [Named F] in
theorem slot_sep (s s' : Fin 3) (h : s ≠ s') :
    (slotRect s).off (0 : Fin 3) + (slotRect s).size (0 : Fin 3) ≤ (slotRect s').off (0 : Fin 3)
      ∨ (slotRect s').off (0 : Fin 3) + (slotRect s').size (0 : Fin 3) ≤ (slotRect s).off (0 : Fin 3) := by
  revert s s'; decide
omit [FloatOps F] [Named F] in
theorem slot_disjoint (β : Fin 2) (s s' : Fin 3) (h : s ≠ s') :
    Disjoint ((landM β).view.slice (slotRect s)).set ((landM β).view.slice (slotRect s')).set :=
  View.disjoint_slice_of_sep _ _ _ (0 : Fin 3) (by fin_cases s <;> rfl) (by fin_cases s' <;> rfl) (slot_sep s s' h)

/-- A landing buffer, whole, whatever it holds. -/
def landAny (β : Fin 2) (c : Dev nD) : sProp 𝕄 :=
  iprop(∃ f : Buf (Elt F) ((landM β).view.loc (c : Thread nD τ)), (landM β).view.loc (c : Thread nD τ) ↦{fullShare} f)
/-- What the slots leave of a landing buffer. -/
def landRest (β : Fin 2) (c : Dev nD) : sProp 𝕄 :=
  iprop(∃ f : Buf (Elt F) ((landM β).view.loc (c : Thread nD τ)),
    (landM β).view.loc (c : Thread nD τ) ↦[Ring.restOf (fun s : Fin 3 => ((landM β).view.slice (slotRect s)).set)]{fullShare} f)

omit [FloatOps F] [Named F] in
theorem slotAny_eq (β : Fin 2) (s : Fin 3) (c : Dev nD) : slotAny (F := F) β s c
    = iprop(∃ f : Buf (Elt F) ((landM β).view.loc (c : Thread nD τ)), (landM β).view.loc (c : Thread nD τ) ↦[((landM β).view.slice (slotRect s)).set]{fullShare} f) := by
  fin_cases s <;> exact cut_any (landM β) _ _ c

omit [FloatOps F] [Named F] in
theorem land_split (β : Fin 2) (c : Dev nD) :
    landAny (F := F) β c ⊢ iprop((bigSep Finset.univ fun s : Fin 3 => slotAny (F := F) β s c) ∗ landRest (F := F) β c) := by
  rw [bigSep_congr fun s _ => slotAny_eq β s c]
  exact Ring.fam_split_ex _ (slot_disjoint β)
omit [Named F] in
theorem land_join (β : Fin 2) (c : Dev nD) :
    iprop((bigSep Finset.univ fun s : Fin 3 => slotAny (F := F) β s c) ∗ landRest (F := F) β c) ⊢ landAny (F := F) β c := by
  rw [bigSep_congr fun s _ => slotAny_eq β s c]
  exact Ring.fam_join _ (slot_disjoint β) (landM β).view.junk

omit [FloatOps F] [Named F] in
theorem slots_eq (c : Dev nD) : slots (F := F) c
    = iprop((bigSep Finset.univ fun s : Fin 3 => slotAny (F := F) 0 s c) ∗ bigSep Finset.univ fun s : Fin 3 => slotAny (F := F) 1 s c) := by
  unfold slots; rw [bigSep_univ_prod]; exact bigSep_univ_two _

/-- The four scratch buffers, whatever they hold. -/
def scratch (c : Dev nD) : sProp 𝕄 :=
  iprop((∃ f, accPts (F := F) 0 c f) ∗ (∃ f, accPts (F := F) 1 c f) ∗ landAny (F := F) 0 c ∗ landAny (F := F) 1 c)

omit [FloatOps F] [Named F] in
theorem accPts_whole (β : Fin 2) (c : Dev nD) (f) : accPts (F := F) β c f = ((accM β).view.loc (c : Thread nD τ) ↦{fullShare} f) := by
  fin_cases β
  · exact congrArg (fun S => (((accM 0).view.loc (c : Thread nD τ)) ↦[S]{fullShare} f : sProp 𝕄)) (View.set_whole cc0_scratch0)
  · exact congrArg (fun S => (((accM 1).view.loc (c : Thread nD τ)) ↦[S]{fullShare} f : sProp 𝕄)) (View.set_whole cc0_scratch1)
omit [FloatOps F] [Named F] in
theorem scratch_eq (c : Dev nD) : (Pipeline.scopedRest (Ix := Unit) (Name := ℕ) (U := UU) (Lvl := ℕ) (Val := Elt F) cfg0.spec c : sProp 𝕄) = scratch (F := F) c := by
  refine (scopedRest0_eq c).trans ?_
  unfold scratch landAny
  simp only [accPts_whole]
  rfl

/-! ## The pipeline's proof data -/

/-- What device `c`'s body starts from, beside its scratch buffers. -/
def start (c : Dev nD) : sProp 𝕄 := iprop(G' m c ∗ credits (F := F) c ∗ levAts L lv)

def Φ₀ (c : Dev nD) : sProp 𝕄 := iprop(start m c ∗ scratch (F := F) c)
def Φ₁ (c : Dev nD) : sProp 𝕄 := iprop(scratch (F := F) c ∗ bigSep Finset.univ fun k : Option (Fin 12) => semVal (kcell (c, k)) 0)

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev 𝒱₁ : Variants := Variants.none

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The body -/

def bodyPre (c : Dev nD) : sProp 𝕄 :=
  iprop(Φ₀ m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

def bodyPost (c : Dev nD) : sProp 𝕄 :=
  iprop(Φ₁ (F := F) c ∗ (dats m 0 c).owesAt () t0_0.succ
    ∗ stg c cc0_stg0_0 (insAt m c).x ∗ stg c cc0_stg1_0 (insAt m c).wq ∗ stg c cc0_stg2_0 (insAt m c).k
    ∗ stg c cc0_stg3_0 (insAt m c).v ∗ stg c cc0_stg4_0 (insAt m c).wo ∗ stg c cc0_stg5_0 (outAt m c))

/-- At the end every cell of a device closes, its counter at zero. -/
theorem close (K : Dev nD × Option (Fin 12) → ℕ) (c : Dev nD) :
    iprop(recs (A₀ m) K ∗ positions (F := F) c 1) ⊢ |={Set.univ}=> (bigSep Finset.univ fun k : Option (Fin 12) => semVal (kcell (c, k)) 0 : sProp 𝕄) := by
  refine BIBase.Entails.trans ?_ (Rounds.cells_close ER (exch (F := F) (A₀ m)) Finset.univ (fun k : Option (Fin 12) => kcell (c, k)) (fun k => K (c, k))
    (fun _ _ => Set.mem_univ _) (fun _ _ h => h) (fun _ => 1) (fun k _ => duties_later (A₀ m) (kcell (c, k))))
  unfold positions
  refine bigSep_with_persistent fun k _ => ?_
  unfold recs
  iintro ⟨⟨HI, -⟩, Hp⟩
  isplitl [HI]; · iapply (inv_at' (A₀ m) K (c, k)); iexact HI
  iexact Hp

/-- The pipeline's obligation for the body. -/
theorem body_obligation (c : Dev nD) : BodyObligation (dats (F := F) m 0 c) (defs₀ (F := F)) 𝒱₁ () Set.univ := fun t => by
  rw [fin_N0 t]
  rw [bigSep_W0, bigSep_W0]
  simp only [owns_whole_eq]
  show bodyPre m c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7) (fun _ => bodyPost m c)
  unfold bodyPre Φ₀ start G' scratch Dat.owesAt Pipeline.owesWithin
  iintro ⟨⟨⟨⟨%K, #Hr, Ht, Hp⟩, Hc, #Hlev⟩, Ha, Hb, Hl0, Hl1⟩, ⟨%W, %hW, HO⟩,
    ⟨%d0, %g0, %h0, Hx⟩, ⟨%d1, %g1, %h1, Hwq⟩, ⟨%d2, %g2, %h2, Hk⟩, ⟨%d3, %g3, %h3, Hv⟩, ⟨%d4, %g4, %h4, Hwo⟩, ⟨%d5, %g5, %h5, Hout⟩⟩
  have e0 : g0 = (insAt m c).x := by rw [h0]; unfold Dat.before; rw [if_pos (fetch0_0 t0_0)]; rfl
  have e1 : g1 = (insAt m c).wq := by rw [h1]; unfold Dat.before; rw [if_pos (fetch0_1 t0_0)]; rfl
  have e2 : g2 = (insAt m c).k := by rw [h2]; unfold Dat.before; rw [if_pos (fetch0_2 t0_0)]; rfl
  have e3 : g3 = (insAt m c).v := by rw [h3]; unfold Dat.before; rw [if_pos (fetch0_3 t0_0)]; rfl
  have e4 : g4 = (insAt m c).wo := by rw [h4]; unfold Dat.before; rw [if_pos (fetch0_4 t0_0)]; rfl
  clear h0 h1 h2 h3 h4
  subst e0 e1 e2 e3 e4
  ihave Hl0 := (land_split (F := F) 0 c) $$ Hl0
  icases Hl0 with ⟨Hs0, Hr0⟩
  ihave Hl1 := (land_split (F := F) 1 c) $$ Hl1
  icases Hl1 with ⟨Hs1, Hr1⟩
  iapply (sound_body m K c fun _ => bodyPost m c)
  isplitl [Ht Hp Hc HO Ha Hb Hs0 Hs1 Hx Hwq Hk Hv Hwo Hout]
  · unfold runPre
    rw [slots_eq]
    isplitr
    · isplitr; · iexact Hr
      iexact Hlev
    isplitl [Ht]; · iexact Ht
    isplitl [Hp]; · iexact Hp
    isplitl [Hc]; · iexact Hc
    isplitl [HO]; · unfold owing; iexists W; iexact HO
    isplitl [Ha]; · iexact Ha
    isplitl [Hb]; · iexact Hb
    isplitl [Hs0 Hs1]
    · isplitl [Hs0] <;> iassumption
    isplitl [Hx]; · iexact Hx
    isplitl [Hwq]; · iexact Hwq
    isplitl [Hk]; · iexact Hk
    isplitl [Hv]; · iexact Hv
    isplitl [Hwo]; · iexact Hwo
    iexists g5; iexact Hout
  · unfold runPost bodyPost Φ₁ scratch owing Dat.owesAt Pipeline.owesWithin
    rw [slots_eq]
    iintro ⟨-, Hp, ⟨%W', HO⟩, Ha, Hb, ⟨Hs0, Hs1⟩, Hx, Hwq, Hk, Hv, Hwo, Hout⟩
    imod (close m K c) $$ [Hp] with Hz
    · isplitr; · iexact Hr
      iexact Hp
    imodintro
    isplitl [Ha Hb Hs0 Hs1 Hr0 Hr1 Hz]
    · isplitl [Ha Hb Hs0 Hs1 Hr0 Hr1]
      · isplitl [Ha]; · iexact Ha
        isplitl [Hb]; · iexact Hb
        isplitl [Hs0 Hr0]
        · iapply (land_join (F := F) 0 c); isplitl [Hs0] <;> iassumption
        iapply (land_join (F := F) 1 c); isplitl [Hs1] <;> iassumption
      iexact Hz
    isplitl [HO]
    · iexists W'
      isplitr; · ipureintro; exact fun _ _ => Or.inl trivial
      iexact HO
    isplitl [Hx]
    · iexists _; isplitr; · (ipureintro; rfl)
      iexact Hx
    isplitl [Hwq]
    · iexists _; isplitr; · (ipureintro; rfl)
      iexact Hwq
    isplitl [Hk]
    · iexists _; isplitr; · (ipureintro; rfl)
      iexact Hk
    isplitl [Hv]
    · iexists _; isplitr; · (ipureintro; rfl)
      iexact Hv
    isplitl [Hwo]
    · iexists _; isplitr; · (ipureintro; rfl)
      iexact Hwo
    iexists _; isplitr; · (ipureintro; rfl)
    iexact Hout

/-! ## The launch -/

theorem ownSemFacts : Pipeline.OwnSemFacts cfg0.spec osem := by decide

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, scratch_eq]
  unfold Φ₁
  rw [sems0_eq]
  iintro ⟨Hr, Hu, Hz⟩
  isplitl [Hu]; · iexact Hu
  isplitl [Hz] <;> iassumption

omit [FloatOps F] [Named F] in
theorem mayWait_stage (c : Dev nD) (q : DmaSem sig) (hq : (q : Fin 18).val < 6) (O : CellTallies nD τ sig Unit) (hO : O = O₀ c ∨ O = 0) :
    (levAts L lv : sProp 𝕄) ⊢ MayWait (c : Thread nD τ) (.dma q) () O := by
  refine mayWait c _ O fun g u h => ?_
  have e : lv ((c : Thread nD τ), .dma q) () = 0 := if_neg (by omega)
  rcases hO with rfl | rfl
  · have := O₀_lv c h; exact ⟨this.1, by omega⟩
  · exact absurd h (Nat.lt_irrefl 0)

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

set_option maxRecDepth 8000 in
/-- From any memory with zero counters the kernel ends, every window's array as the pipeline leaves it and every counter at zero. -/
theorem run_main : θ_run defs (onTc (τ := τ) (main (F := F))) ⟨m, fun _ => 0, ρ⟩ (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₁ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_exch m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Exch

end
-- ==== Proof.Frames.lean ====
/-
# What the run leaves

The arguments end as they were launched, every counter at zero, and the result array of every device holds that device's
output block.
-/
module

public import proofs.«01_k».proof.Proof.KernelRun
public import Idealize.ShloMosaic.Lib.Pipeline.ValueKit.Geometry

@[expose] public section

noncomputable section

namespace Cert.KernelIdeal.Exch

open Cert.KernelIdeal Cert.KernelIdeal.Gen

open Idealize.ShloMosaic
open Idealize.ShloMosaic.TcCoe
open Idealize.SL Idealize.SL.Sem
open Idealize.ShloMosaic.Pipeline (Dat Cfg Window)

variable {F : FTy → Type} [FloatOps F] [Named F]

variable (m : (ℓ : Loc nD τ sig) → Buf (Elt F) ℓ) (ρ : Dev nD → PrngReg)

/-- An argument array is at the end what it was at the launch. -/
theorem finalA_in (c : Dev nD) (w : Fin cfg0.W) (hw : (cfg0.win w).isOut = false) :
    finalA m c w = V m c (Pipeline.arrRef spec0 w) := (dats m 0 c).arrAt_in w hw _

/-- The result array holds the output block the body left. -/
theorem finalA_out (c : Dev nD) : finalA m c 5 = outAt m c := by
  refine (dats m 0 c).arrAt_eq_of_after_last 5 t0_0 (by decide +kernel) _ fun j => ?_
  rfl

/-- The run's post read at the named buffers: result and arguments of every device, and the counters. -/
theorem run_named : θ_run defs (onTc (τ := τ) (main (F := F))) ⟨m, fun _ => 0, ρ⟩ (fun r => (∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c 5).trans (finalA_out m c), (h.1 c 0).trans (finalA_in m c 0 rfl), (h.1 c 1).trans (finalA_in m c 1 rfl),
      (h.1 c 2).trans (finalA_in m c 2 rfl), (h.1 c 3).trans (finalA_in m c 3 rfl), (h.1 c 4).trans (finalA_in m c 4 rfl)⟩,
    h.2⟩) (run_main m ρ)

/-- The frame alone: the arguments unchanged, the counters at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_named m ρ)

end Cert.KernelIdeal.Exch

end
-- ==== Proof.KernelFrame.lean ====
/-
# The frame of the kernel as it was printed

The kernel and its idealization differ in one constant alone, the mask's, which the run never looks at. Reading the
idealization's named constant as the number the kernel writes gives the kernel, so its run is one more instance of the run
proved for all float values.
-/
module

public import proofs.«01_k».proof.Proof.Frames
public import proofs.«01_k».proof.Proof.Gen.Kernel
public import proofs.«01_k».proof.Kernel
public import Idealize.ShloMosaic.PureOps.BitExact

@[expose] public section

noncomputable section

namespace Cert.Kernel.Exch

open Cert.Kernel Cert.Kernel.Gen
open Idealize.ShloMosaic
open Idealize.SL Idealize.SL.Sem

/-- A named constant read as its literal. -/
local instance literal : Named Bits := ⟨fun _ _ {φ} b => Scalar.ofBits φ b⟩

/-- One kernel body: the two print the same statements. -/
theorem body_eq : (@cc0_body Bits _ _) = @Cert.KernelIdeal.cc0_body Bits _ _ _ := rfl

/-- One table of kernel bodies. -/
theorem defs₀_eq : (defs₀ (F := Bits)) = Cert.KernelIdeal.defs₀ (F := Bits) := by
  refine congrArg Defs.onTc ?_
  funext a
  match a with
  | ⟨0, _⟩ => funext x; obtain ⟨t, s⟩ := x; exact rfl
  | ⟨_ + 1, h⟩ => exact absurd h (Nat.not_lt.2 (Nat.le_add_left _ _))

/-- One body table, the pipelines' with it. -/
theorem defs_eq : (defs (F := Bits)) = Cert.KernelIdeal.defs (F := Bits) := congrArg (Pipeline.defs pcfgs) defs₀_eq

/-- From any memory with zero counters the printed kernel ends, its arguments unchanged and every counter at zero. -/
theorem run_frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (congrArg (fun D => θ_run D (onTc (τ := τ) (main (F := Bits))) ⟨m, fun _ => 0, ρ⟩ _) defs_eq).mpr
    (Cert.KernelIdeal.Exch.run_frame (F := Bits) m ρ)

end Cert.Kernel.Exch

end
-- ==== Proof.Attention.lean ====
/-
# The function both programs compute

Attention of 128 queries over 1024 keys, in two batch entries and four heads, where query `i` attends to the keys `j`
whose block of 64 has, modulo four, the number of the query's block. Written over extended reals, without the maximum
that a softmax subtracts: each key's weight is the exponential of its score, a head's result is the weighted sum of the
values over the sum of the weights, and the result is the heads side by side times the output matrix.
-/
module

public import Idealize.ShloMosaic.Lib.Pointwise

@[expose] public section

noncomputable section

namespace Cert.Attention

open Idealize.ShloMosaic

/-- Vectors of 2, 3 and 4 axes over the extended reals. -/
abbrev T2 (a b : ℕ) : Type := (⟨2, ![a, b]⟩ : Shape).Idx → EReal
abbrev T3 (a b c : ℕ) : Type := (⟨3, ![a, b, c]⟩ : Shape).Idx → EReal
abbrev T4 (a b c d : ℕ) : Type := (⟨4, ![a, b, c, d]⟩ : Shape).Idx → EReal

variable (x : T3 2 128 512) (wq : T2 512 256) (k v : T4 2 1024 4 64) (wo : T2 256 512)

/-- The lane of head `h`, position `d`, among a head row's 256. -/
def lane (h : Fin 4) (d : Fin 64) : Fin 256 := ⟨64 * h.val + d.val, by omega⟩
/-- The head a lane belongs to, and its position there. -/
def headOf (l : Fin 256) : Fin 4 := ⟨l.val / 64, by omega⟩
def posOf (l : Fin 256) : Fin 64 := ⟨l.val % 64, by omega⟩

/-- The projected query `i` of batch entry `b`, at lane `l`. -/
def query (b : Fin 2) (i : Fin 128) (l : Fin 256) : EReal := ∑ e : Fin 512, x (ix3 b i e) * wq (ix2 e l)

/-- The score of query `i` and key `j` in head `h`: their product over the head's lanes, times an eighth. -/
def score (b : Fin 2) (h : Fin 4) (i : Fin 128) (j : Fin 1024) : EReal :=
  (∑ d : Fin 64, query x wq b i (lane h d) * k (ix4 b j h d)) * Ideal.ofBits .f32 0x3E000000#32

/-- Whether query `i` attends to key `j`. -/
abbrev Used (i : Fin 128) (j : Fin 1024) : Prop := j.val / 64 % 4 = i.val / 64

/-- Key `j`'s weight for query `i`. -/
def weight (b : Fin 2) (h : Fin 4) (i : Fin 128) (j : Fin 1024) : EReal :=
  if Used i j then Ideal.exp (score x wq k b h i j) else 0

/-- The weights' sum. -/
def mass (b : Fin 2) (h : Fin 4) (i : Fin 128) : EReal := ∑ j, weight x wq k b h i j

/-- The weighted sum of the values at position `d` of head `h`. -/
def pull (b : Fin 2) (h : Fin 4) (i : Fin 128) (d : Fin 64) : EReal := ∑ j, weight x wq k b h i j * v (ix4 b j h d)

/-- Head `h`'s result. -/
def context (b : Fin 2) (h : Fin 4) (i : Fin 128) (d : Fin 64) : EReal :=
  Ideal.div (pull x wq k v b h i d) (mass x wq k b h i)

/-- The result: the heads' results side by side times the output matrix. -/
def result : T3 2 128 512 := fun p =>
  ∑ l : Fin 256, context x wq k v (p 0) (headOf l) (p 1) (posOf l) * wo (ix2 l (p 2))

/-- Key `j` of device `c` among all keys. -/
def place (c : Fin 8) (j : Fin 128) : Fin 1024 := ⟨128 * c.val + j.val, by omega⟩

/-- A sum over all keys is the sum over the devices of the sums over their keys. -/
theorem sum_place (f : Fin 1024 → EReal) : ∑ j, f j = ∑ c, ∑ j, f (place c j) := by
  rw [← Fintype.sum_prod_type' (fun c j => f (place c j))]
  refine (Fintype.sum_equiv (finProdFinEquiv (m := 8) (n := 128)) (fun q => f (place q.1 q.2)) f fun q => ?_).symm
  refine congrArg f (Fin.ext ?_)
  show 128 * q.1.val + q.2.val = q.2.val + 128 * q.1.val
  omega

/-- The keys a query attends to lie on the devices with even numbers, in the block of the query's number. -/
theorem used_place (i : Fin 128) (c : Fin 8) (j : Fin 128) :
    Used i (place c j) ↔ c.val % 2 = 0 ∧ j.val / 64 = i.val / 64 := by
  show (128 * c.val + j.val) / 64 % 4 = i.val / 64 ↔ _
  omega

end Cert.Attention

end
-- ==== Proof.Softmax.lean ====
/-
# Weights with and without the subtracted maximum

Over the extended reals: for real scores and any real number subtracted from them, the exponentials over their sum are the
unshifted exponentials over theirs, and a sum of values with those quotients is the weighted sum over the sum of weights.
-/
module

public import proofs.«01_k».proof.Proof.Attention

@[expose] public section

noncomputable section

namespace Cert.Attention

open Idealize.ShloMosaic

/-- An extended real that is a real number. -/
def IsReal (a : EReal) : Prop := ∃ r : ℝ, a = (r : EReal)

theorem IsReal.mul {a b : EReal} (ha : IsReal a) (hb : IsReal b) : IsReal (a * b) := by
  obtain ⟨r, rfl⟩ := ha; obtain ⟨s, rfl⟩ := hb
  exact ⟨r * s, (EReal.coe_mul r s).symm⟩

theorem IsReal.add {a b : EReal} (ha : IsReal a) (hb : IsReal b) : IsReal (a + b) := by
  obtain ⟨r, rfl⟩ := ha; obtain ⟨s, rfl⟩ := hb
  exact ⟨r + s, (EReal.coe_add r s).symm⟩

theorem IsReal.sum {ι : Type} {s : Finset ι} {f : ι → EReal} (h : ∀ i, IsReal (f i)) : IsReal (∑ i ∈ s, f i) :=
  Finset.sum_induction f IsReal (fun _ _ => IsReal.add) ⟨0, EReal.coe_zero.symm⟩ fun i _ => h i

/-- A sum of reals, coerced. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative distributes over a sum of extended reals. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.mpr hr) (EReal.coe_ne_top r), ih]

/-- Dividing by a real number that is not zero is multiplying by its inverse. -/
theorem div_real (a : EReal) {r : ℝ} (hr : r ≠ 0) : Ideal.div a (r : EReal) = a * ((r⁻¹ : ℝ) : EReal) := by
  unfold Ideal.div
  rw [if_neg (by exact_mod_cast hr), EReal.coe_inv]

/-- The maximum of finitely many numbers below plus infinity, one of them real, is real. -/
theorem isReal_fold_max {n : ℕ} {f : Fin n → EReal} (j₀ : Fin n) (h₀ : IsReal (f j₀)) (h : ∀ j, f j ≠ ⊤) :
    IsReal (Finset.univ.fold max ⊥ f) := by
  have ht : Finset.univ.fold max ⊥ f ≠ ⊤ :=
    ((Finset.fold_max_lt (s := Finset.univ) (b := ⊥) (f := f) ⊤).mpr ⟨bot_lt_top, fun j _ => lt_top_iff_ne_top.mpr (h j)⟩).ne
  have hb : Finset.univ.fold max ⊥ f ≠ ⊥ := by
    obtain ⟨r, hr⟩ := h₀
    have : f j₀ ≤ Finset.univ.fold max ⊥ f := (Finset.le_fold_max (f j₀)).mpr (.inr ⟨j₀, Finset.mem_univ _, le_rfl⟩)
    intro hh
    rw [hh, hr] at this
    exact absurd (le_bot_iff.mp this) (EReal.coe_ne_bot r)
  exact ⟨_, (EReal.coe_toReal ht hb).symm⟩

section
variable {n : ℕ} (U : Fin n → Prop) [DecidablePred U] (s : Fin n → ℝ)

/-- A weight as a real number. -/
def wt (j : Fin n) : ℝ := if U j then Real.exp (s j) else 0

theorem wt_nonneg (j : Fin n) : 0 ≤ wt U s j := by
  unfold wt; split_ifs
  · exact (Real.exp_pos _).le
  · exact le_rfl

theorem sum_wt_pos {j₀ : Fin n} (h₀ : U j₀) : 0 < ∑ j, wt U s j :=
  Finset.sum_pos' (fun j _ => wt_nonneg U s j) ⟨j₀, Finset.mem_univ _, by unfold wt; rw [if_pos h₀]; exact Real.exp_pos _⟩

/-- The exponential of a score, zero where it is masked. -/
theorem weight_real (j : Fin n) : (if U j then Ideal.exp ((s j : ℝ) : EReal) else 0) = ((wt U s j : ℝ) : EReal) := by
  unfold wt; split_ifs <;> rfl

/-- The exponential of a masked score less a real number. -/
theorem shifted_real (M : ℝ) (j : Fin n) :
    Ideal.exp ((if U j then ((s j : ℝ) : EReal) else ⊥) - (M : EReal)) = ((wt U s j * Real.exp (-M) : ℝ) : EReal) := by
  unfold wt; split_ifs
  · rw [← EReal.coe_sub, ← Real.exp_add]; rfl
  · rw [zero_mul, EReal.bot_sub]; rfl

/-- A shifted exponential over the shifted sum: the weight over the sum of the weights. -/
theorem quotient_real (M : ℝ) {j₀ : Fin n} (h₀ : U j₀) (j : Fin n) :
    Ideal.div ((wt U s j * Real.exp (-M) : ℝ) : EReal) (∑ j, ((wt U s j * Real.exp (-M) : ℝ) : EReal))
      = ((wt U s j * (∑ j, wt U s j)⁻¹ : ℝ) : EReal) := by
  have hD := sum_wt_pos U s h₀
  have hE := Real.exp_pos (-M)
  rw [← coe_sum, ← Finset.sum_mul, div_real _ (mul_pos hD hE).ne', ← EReal.coe_mul]
  refine congrArg _ ?_
  field_simp

/-- The weighted sum of the values over the sum of the weights is the sum of the values times the quotients. -/
theorem context_real (V : Fin n → EReal) {j₀ : Fin n} (h₀ : U j₀) :
    Ideal.div (∑ j, ((wt U s j : ℝ) : EReal) * V j) (∑ j, ((wt U s j : ℝ) : EReal))
      = ∑ j, V j * ((wt U s j * (∑ j, wt U s j)⁻¹ : ℝ) : EReal) := by
  have hD := sum_wt_pos U s h₀
  rw [← coe_sum, div_real _ hD.ne', sum_mul_coe _ _ (inv_nonneg.mpr hD.le)]
  refine Finset.sum_congr rfl fun j _ => ?_
  rw [EReal.coe_mul]
  ac_rfl
end

end Cert.Attention

end
-- ==== Proof.Precondition.lean ====
/-
# What the precondition says

Every element of the queries' input, of the query matrix and of a device's keys is a real number.
-/
module

public import proofs.«01_k».proof.Pre_finite_scores_KernelIdeal
public import proofs.«01_k».proof.Pre_finite_scores_ReferenceIdeal
public import proofs.«01_k».proof.Proof.Softmax
public import Idealize.ShloMosaic.Lib.ReduceAll

@[expose] public section

noncomputable section

open Idealize.ShloMosaic

/-- The side conditions of the precondition over one device's blocks. -/
theorem Cert.Pre_finite_scores_KernelIdeal.facts : Cert.Pre_finite_scores_KernelIdeal.Facts where
  bcast_S_S2x128x512 := by decide
  reducesTo_S2x128x512_S_d0_1_2 := by decide
  h_S_ := by decide
  bcast_S_S512x256 := by decide
  reducesTo_S512x256_S_d0_1 := by decide
  bcast_S_S2x128x4x64 := by decide
  reducesTo_S2x128x4x64_S_d0_1_2_3 := by decide

/-- The side conditions of the precondition over the whole arrays. -/
theorem Cert.Pre_finite_scores_ReferenceIdeal.facts : Cert.Pre_finite_scores_ReferenceIdeal.Facts where
  bcast_S_S2x128x512 := by decide
  reducesTo_S2x128x512_S_d0_1_2 := by decide
  h_S_ := by decide
  bcast_S_S512x256 := by decide
  reducesTo_S512x256_S_d0_1 := by decide
  bcast_S_S2x1024x4x64 := by decide
  reducesTo_S2x1024x4x64_S_d0_1_2_3 := by decide

namespace Cert.Attention

/-- A number whose absolute value is below plus infinity is real. -/
theorem isReal_of_olt {a : Ideal .f32}
    (h : FloatOps.cmpf .olt (FloatOps.hostAbsf a) (FloatOps.ofBits (F := Ideal) .f32 0x7F800000#32) = 1#1) : IsReal a := by
  have htop : Ideal.ofBits .f32 0x7F800000#32 = ⊤ := by simp [Ideal.ofBits, Ideal.ieee]
  have h' : Ideal.cmp .olt (max (a : EReal) (-(a : EReal))) (Ideal.ofBits .f32 0x7F800000#32) = 1#1 := h
  rw [htop] at h'
  have hlt : max (a : EReal) (-(a : EReal)) < ⊤ := by
    by_contra hn
    simp [Ideal.cmp, hn] at h'
  obtain ⟨h₁, h₂⟩ := max_lt_iff.mp hlt
  refine ⟨_, (EReal.coe_toReal h₁.ne ?_).symm⟩
  rintro rfl
  exact absurd h₂ (by simp)

/-- A bitwise "and" of two bits is set only if both are. -/
theorem andi_one {p q : BitVec 1} (h : IntOp.andi p q = 1#1) : p = 1#1 ∧ q = 1#1 := by revert p q; decide

/-- What the precondition says of a device's blocks. -/
theorem real_of_pre [Cert.Pre_finite_scores_KernelIdeal.Facts] {x : FVec Ideal ⟨3, ![2, 128, 512]⟩ .f32} {wq : FVec Ideal ⟨2, ![512, 256]⟩ .f32}
    {k v : FVec Ideal ⟨4, ![2, 128, 4, 64]⟩ .f32} {wo : FVec Ideal ⟨2, ![256, 512]⟩ .f32}
    (h : Cert.Pre_finite_scores_KernelIdeal.fn x wq k v wo = fun _ => 1#1) :
    (∀ p, IsReal (x p)) ∧ (∀ p, IsReal (wq p)) ∧ ∀ p, IsReal (k p) := by
  haveI : Subsingleton Cert.Pre_finite_scores_KernelIdeal.S_.Idx := ⟨fun a b => funext fun z => z.elim0⟩
  have e := congrFun h (Shape.Idx.first Cert.Pre_finite_scores_KernelIdeal.Facts.h_S_)
  obtain ⟨e₁, e₃⟩ := andi_one e
  obtain ⟨e₁, e₂⟩ := andi_one e₁
  exact ⟨fun p => isReal_of_olt (Host.reduce_andi_all _ _ _ _ _ e₁ p), fun p => isReal_of_olt (Host.reduce_andi_all _ _ _ _ _ e₂ p),
    fun p => isReal_of_olt (Host.reduce_andi_all _ _ _ _ _ e₃ p)⟩

end Cert.Attention

end
-- ==== Proof.Weights.lean ====
/-
# What the kernel's blocks hold, element by element

Over the extended reals, with the mask constant at minus infinity: a device's weights are the weights of its own keys,
zero where a query does not attend; its partial products and sums are the sums over its own keys.
-/
module

public import proofs.«01_k».proof.Proof.Contents
public import proofs.«01_k».proof.Proof.Attention

@[expose] public section

noncomputable section

namespace Cert.KernelIdeal.Exch

open Cert.KernelIdeal Cert.KernelIdeal.Gen
open Idealize.ShloMosaic
open Idealize.ShloMosaic.TcCoe
open Cert.Attention (place lane query score weight mass pull context result Used)

/-- A projected query. -/
theorem qMat_apply (I : Ins Ideal) (b : Fin 2) (i : Fin 128) (l : Fin 256) :
    qMat I (ix2 ⟨128 * b.val + i.val, by omega⟩ l) = query I.x I.wq b i l := by
  pointwise [qMat, k0_pay2, query]

/-- A key. -/
theorem kMat_apply (I : Ins Ideal) (b : Fin 2) (j : Fin 128) (h : Fin 4) (d : Fin 64) :
    kMat I (ix2 ⟨128 * b.val + j.val, by omega⟩ ⟨64 * h.val + d.val, by omega⟩) = I.k (ix4 b j h d) := by
  pointwise [kMat, k0_pay4, k0_pay3]

/-- A value. -/
theorem vMat_apply (I : Ins Ideal) (b : Fin 2) (j : Fin 128) (h : Fin 4) (d : Fin 64) :
    vMat I (ix2 ⟨128 * b.val + j.val, by omega⟩ ⟨64 * h.val + d.val, by omega⟩) = I.v (ix4 b j h d) := by
  pointwise [vMat, k0_pay5]

/-- Which device numbers are even. -/
theorem evenDev_eq (c : Dev nD) : evenDev c = if c.val % 2 = 0 then 1 else 0 := by revert c; decide

/-- The block of 64 a key's row lies in, as the kernel computes it. -/
theorem rowBlk (j i : Fin 128) : k0_pay6 (ix2 j i) = BitVec.ofNat 32 (j.val / 64) := by
  pointwise [k0_pay6]
  clear i; revert j; decide +kernel

/-- Key and query share a block exactly when the quotients of their numbers by 64 agree. -/
theorem sameBlk_apply (j i : Fin 128) : sameBlk (ix2 j i) = if j.val / 64 = i.val / 64 then 1 else 0 := by
  pointwise [sameBlk, k0_pay9, k0_pay8, k0_pay7]
  rw [rowBlk]
  refine (congrArg (IntOp.cmpi .eq _) (show _ = BitVec.ofNat 32 (i.val / 64) from ?_)).trans ?_
  · clear j; revert i; decide +kernel
  · have hj : j.val / 64 < 2 := by omega
    have hi : i.val / 64 < 2 := by omega
    generalize j.val / 64 = p at hj ⊢
    generalize i.val / 64 = q at hi ⊢
    interval_cases p <;> interval_cases q <;> rfl

/-- The mask constant is minus infinity. -/
theorem mask_eq : Named.named (F := Ideal) (φ := .f32) κ "mask" 0xCE6E6B28#32 = (⊥ : EReal) := rfl

/-- A device's weights are the weights of its keys. -/
theorem pT_apply (I : Ins Ideal) (K : Cert.Attention.T4 2 1024 4 64) (c : Dev nD)
    (hK : ∀ b j h d, I.k (ix4 b j h d) = K (ix4 b (place c j) h d)) (b : Fin 2) (h : Fin 4) (j i : Fin 128) :
    pT I c b h (ix2 j i) = weight I.x I.wq K b h i (place c j) := by
  have hs : (∑ d : Fin 64, kMat I (ix2 ⟨128 * b.val + j.val, by omega⟩ ⟨64 * h.val + d.val, by omega⟩)
      * qMat I (ix2 ⟨128 * b.val + i.val, by omega⟩ ⟨64 * h.val + d.val, by omega⟩))
      * Ideal.ofBits .f32 0x3E000000#32 = score I.x I.wq K b h i (place c j) := by
    refine congrArg (· * _) (Finset.sum_congr rfl fun d _ => ?_)
    rw [kMat_apply, qMat_apply, hK, mul_comm]; rfl
  pointwise [pT, headOf]
  rw [hs, mask_eq, evenDev_eq, sameBlk_apply]
  unfold weight
  by_cases hc : c.val % 2 = 0 <;> by_cases hb : j.val / 64 = i.val / 64 <;>
    simp [hc, hb, Scalar.select, Cert.Attention.used_place]
section
variable (I : Dev nD → Ins Ideal) (x : Cert.Attention.T3 2 128 512) (wq : Cert.Attention.T2 512 256)
  (K V : Cert.Attention.T4 2 1024 4 64) (wo : Cert.Attention.T2 256 512)

/-- Every device holds the same queries and matrices, and its own block of the keys and values. -/
structure Split : Prop where
  x : ∀ c, (I c).x = x
  wq : ∀ c, (I c).wq = wq
  wo : ∀ c, (I c).wo = wo
  k : ∀ c b j h d, (I c).k (ix4 b j h d) = K (ix4 b (place c j) h d)
  v : ∀ c b j h d, (I c).v (ix4 b j h d) = V (ix4 b (place c j) h d)

variable {I x wq K V wo} (S : Split I x wq K V wo)
include S

/-- A device's product: the sum over its keys of weight times value. -/
theorem oHead_apply (c : Dev nD) (b : Fin 2) (h : Fin 4) (i : Fin 128) (d : Fin 64) :
    oHead (I c) c b h (ix2 i d) = ∑ j, weight x wq K b h i (place c j) * V (ix4 b (place c j) h d) := by
  pointwise [oHead, headOf]
  refine Finset.sum_congr rfl fun j _ => ?_
  rw [pT_apply (I c) K c (S.k c), vMat_apply, S.v, S.x, S.wq]

/-- A device's sum of weights. -/
theorem lHead_apply (c : Dev nD) (b : Fin 2) (h : Fin 4) (i : Fin 128) :
    lHead (I c) c b h (ix2 0 i) = ∑ j, weight x wq K b h i (place c j) := by
  pointwise [lHead]
  refine Finset.sum_congr rfl fun j _ => ?_
  rw [pT_apply (I c) K c (S.k c), S.x, S.wq]

end

end Cert.KernelIdeal.Exch

end
-- ==== Proof.Total.lean ====
/-
# The output block as a function of all the keys

After three steps a running array holds the sum of all devices' arrays; so its top is the weighted sum of all values, its
rows the sums of all weights, and the output block is the attention's result.
-/
module

public import proofs.«01_k».proof.Proof.Weights
public import proofs.«01_k».proof.Proof.Schedule

@[expose] public section

noncomputable section

namespace Cert.KernelIdeal.Exch

open Cert.KernelIdeal Cert.KernelIdeal.Gen
open Idealize.ShloMosaic
open Idealize.ShloMosaic.TcCoe
open Cert.Attention (place lane query score weight mass pull context result Used)

/-- After three steps every device's array is the sum of all devices' arrays. -/
theorem Acc_three (A : Fin 2 → Dev nD → Arr Ideal) (β : Fin 2) (c : Dev nD) (i : S136x256.Idx) :
    Acc A β 3 c i = (∑ c' : Dev nD, (A β c' i : EReal)) := by
  show ((A β c i + A β (peer (ordN β 0) c) i) + (A β (peer (ordN β 1) c) i + A β (peer (ordN β 0) (peer (ordN β 1) c)) i))
    + ((A β (peer (ordN β 2) c) i + A β (peer (ordN β 0) (peer (ordN β 2) c)) i) + (A β (peer (ordN β 1) (peer (ordN β 2) c)) i + A β (peer (ordN β 0) (peer (ordN β 1) (peer (ordN β 2) c))) i))
    = (∑ c' : Dev nD, (A β c' i : EReal))
  generalize hg : (fun c' => (A β c' i : EReal)) = g
  have e : ∀ c', (A β c' i : EReal) = g c' := fun c' => congrFun hg c'
  simp only [e]
  clear hg e
  rw [Fin.sum_univ_eight]
  have ne : Function.Injective ![c, peer (ordN β 0) c, peer (ordN β 1) c, peer (ordN β 0) (peer (ordN β 1) c), peer (ordN β 2) c, peer (ordN β 0) (peer (ordN β 2) c),
    peer (ordN β 1) (peer (ordN β 2) c), peer (ordN β 0) (peer (ordN β 1) (peer (ordN β 2) c))] := by
    revert β c; decide
  have := Fintype.sum_bijective _ (Finite.injective_iff_bijective.mp ne) _ g (fun _ => rfl)
  rw [Fin.sum_univ_eight, Fin.sum_univ_eight] at this
  rw [← this]
  simp only [Matrix.cons_val]
  ac_rfl

section
variable {I : Dev nD → Ins Ideal} {x : Cert.Attention.T3 2 128 512} {wq : Cert.Attention.T2 512 256}
  {K V : Cert.Attention.T4 2 1024 4 64} {wo : Cert.Attention.T2 256 512} (S : Split I x wq K V wo)
include S

/-- The top of a finished array: the weighted sums of all values. -/
theorem top_total (b : Fin 2) (c : Dev nD) (i : Fin 128) (l : Fin 256) :
    Acc (fun β c => part (I c) c β) b 3 c (ix2 ⟨i.val, by omega⟩ l) = pull x wq K V b (Cert.Attention.headOf l) i (Cert.Attention.posOf l) := by
  refine (Acc_three _ b c _).trans ?_
  refine (Finset.sum_congr rfl fun c' _ => ?_).trans (Cert.Attention.sum_place _).symm
  refine (dif_pos i.isLt).trans ?_
  refine Eq.trans ?_ (oHead_apply S c' b (Cert.Attention.headOf l) i (Cert.Attention.posOf l))
  have hh : (⟨l.val / 64 % 4, Nat.mod_lt _ (by decide)⟩ : Fin 4) = Cert.Attention.headOf l := Fin.ext (by show l.val / 64 % 4 = l.val / 64; omega)
  show oHead (I c') c' b ⟨l.val / 64 % 4, Nat.mod_lt _ (by decide)⟩ _ = _
  rw [hh]; rfl

/-- The rows of a finished array: the sums of all weights. -/
theorem row_total (b : Fin 2) (c : Dev nD) (h : Fin 4) (i : Fin 128) :
    Acc (fun β c => part (I c) c β) b 3 c (ix2 ⟨128 + h.val, by omega⟩ ⟨i.val, by omega⟩) = mass x wq K b h i := by
  refine (Acc_three _ b c _).trans ?_
  refine (Finset.sum_congr rfl fun c' _ => ?_).trans (Cert.Attention.sum_place _).symm
  refine (dif_neg (show ¬ 128 + h.val < 128 by omega)).trans ((dif_pos i.isLt).trans ?_)
  refine Eq.trans ?_ (lHead_apply S c' b h i)
  have hh : (⟨(128 + h.val - 128) % 4, Nat.mod_lt _ (by decide)⟩ : Fin 4) = h := Fin.ext (by show (128 + h.val - 128) % 4 = h.val; omega)
  show lHead (I c') c' b ⟨(128 + h.val - 128) % 4, Nat.mod_lt _ (by decide)⟩ _ = _
  rw [hh]; rfl
end

/-- One batch entry of the output, read at an index: each lane's entry over its head's sum, times the output matrix. -/
theorem finish_apply (a : Arr Ideal) (wo : Vec Ideal S256x512 .f32) (i : Fin 128) (n : Fin 512) :
    finish a wo (ix3 0 i n) = ∑ l : Fin 256, Ideal.div (a (ix2 ⟨i.val, by omega⟩ l))
      (a (ix2 ⟨128 + (Cert.Attention.headOf l).val, by omega⟩ ⟨i.val, by omega⟩)) * wo (ix2 l n) := by
  pointwise [finish, k0_pay55, topOf, rowOf]
  refine Finset.sum_congr rfl fun l _ => congrArg (· * _) ?_
  have e : ∀ (l' : Fin 256) (r : Fin 136), l' = l → r.val = 128 + l.val / 64 →
      Ideal.div (a (ix2 ⟨i.val, by omega⟩ l')) (a (ix2 r ⟨i.val, by omega⟩))
        = Ideal.div (a (ix2 ⟨i.val, by omega⟩ l)) (a (ix2 ⟨128 + (Cert.Attention.headOf l).val, by omega⟩ ⟨i.val, by omega⟩)) := by
    intro l' r hl hr
    subst hl
    exact congrArg (fun r => Ideal.div (a (ix2 ⟨i.val, by omega⟩ l')) (a (ix2 r ⟨i.val, by omega⟩))) (Fin.ext hr)
  split_ifs
  all_goals first
    | exact absurd rfl ‹¬ ((1 : Fin 2) : ℕ) = ((1 : Fin 2) : ℕ)›
    | exact e _ _ rfl (by show 128 = _; omega)
    | exact e _ _ (Fin.ext (by show 64 + (l.val - 64) = l.val; omega)) (by show 129 = _; omega)
    | exact e _ _ (Fin.ext (by show 128 + (l.val - 64 - 64) = l.val; omega)) (by show 130 = _; omega)
    | exact e _ _ (Fin.ext (by show 192 + (l.val - 64 - 64 - 64) = l.val; omega)) (by show 131 = _; omega)

/-- The output block of every device is the attention's result over all the keys. -/
theorem out_total {I : Dev nD → Ins Ideal} {x : Cert.Attention.T3 2 128 512} {wq : Cert.Attention.T2 512 256}
    {K V : Cert.Attention.T4 2 1024 4 64} {wo : Cert.Attention.T2 256 512} (S : Split I x wq K V wo) (c : Dev nD) :
    outOf (fun β => Acc (fun β c => part (I c) c β) β 3 c) (I c).wo = result x wq K V wo := by
  refine funext fun p => ?_
  refine (finish_apply _ _ (p 1) (p 2)).trans (Finset.sum_congr rfl fun l _ => ?_)
  exact congrArg₂ (· * ·) (congrArg₂ Ideal.div (top_total S (p 0) c (p 1) l) (row_total S (p 0) c (Cert.Attention.headOf l) (p 1)))
    (congrFun (S.wo c) _)

end Cert.KernelIdeal.Exch

end
-- ==== Proof.RefTerms.lean ====
/-
# The reference's result, stage by stage

The reference's composed term cut at its named quantities: the blocks of queries and keys, which keys are kept, the masked
scores, their exponentials less the row's maximum, the normalized weights, and the weighted values times the output matrix.
-/
module

public import proofs.«01_k».proof.Proof.Gen.ReferenceIdeal.Run

@[expose] public section

noncomputable section

namespace Cert.ReferenceIdeal.Stages

open Cert.ReferenceIdeal Cert.ReferenceIdeal.Gen Idealize.ShloMosaic Idealize.ShloMosaic.TcCoe Idealize.SL.Sem

variable {F : FTy → Type} [FloatOps F]

/-- A floor division by `d` of every element, written with the truncating one. -/
def floorDiv {s : Shape} (hb : S_.BroadcastsInDim s ![]) (d : BitVec 32) (v : IVec s 32) : IVec s 32 :=
  select (andi (cmpi .ne (signi v) (broadcastInDim s ![] hb (signi (id (constantI S_ 32 d)))))
      (cmpi .ne (Host.remsi v (broadcastInDim s ![] hb (id (constantI S_ 32 d)))) (broadcastInDim s ![] hb (constantI S_ 32 0#32))))
    (subi (Host.divsi v (broadcastInDim s ![] hb (id (constantI S_ 32 d)))) (broadcastInDim s ![] hb (constantI S_ 32 1#32)))
    (Host.divsi v (broadcastInDim s ![] hb (id (constantI S_ 32 d))))

/-- The modulus that a remainder by `d` takes: `d`, or one for zero. -/
def modulus (d : BitVec 32) : IVec S_ 32 :=
  select (cmpi .eq (id (constantI S_ 32 d)) (constantI S_ 32 0#32)) (constantI S_ 32 1#32) (id (constantI S_ 32 d))

/-- The remainder of every element by `d`, with the divisor's sign, written with the truncating one. -/
def floorMod {s : Shape} (hb : S_.BroadcastsInDim s ![]) (d : BitVec 32) (v : IVec s 32) : IVec s 32 :=
  select (andi (cmpi .ne (cmpi .slt (Host.remsi v (broadcastInDim s ![] hb (modulus d))) (broadcastInDim s ![] hb (constantI S_ 32 0#32)))
        (broadcastInDim s ![] hb (cmpi .slt (modulus d) (constantI S_ 32 0#32))))
      (cmpi .ne (Host.remsi v (broadcastInDim s ![] hb (modulus d))) (broadcastInDim s ![] hb (constantI S_ 32 0#32))))
    (addi (Host.remsi v (broadcastInDim s ![] hb (modulus d))) (broadcastInDim s ![] hb (modulus d)))
    (Host.remsi v (broadcastInDim s ![] hb (modulus d)))

/-- The block of 64 of every query, and of every key. -/
def qBlk : IVec S128 32 := floorDiv bcast_S_S128 64#32 (iotaInDim S128 32 0)
def kBlk : IVec S1024 32 := floorDiv bcast_S_S1024 64#32 (iotaInDim S1024 32 0)
/-- The same, as a column and as a row. -/
def qCol : IVec S128x1 32 := broadcastInDim S128x1 ![0] bcast_S128_S128x1_0 qBlk
def kRow : IVec S1x1024 32 := broadcastInDim S1x1024 ![1] bcast_S1024_S1x1024_1 kBlk

/-- Which keys each query keeps. -/
def keep : IVec S128x1024 1 :=
  ori (cmpi .eq (broadcastInDim S128x1024 ![0, 1] bcast_S128x1_S128x1024_0_1 qCol) (broadcastInDim S128x1024 ![0, 1] bcast_S1x1024_S128x1024_0_1 kRow))
    (cmpi .eq (broadcastInDim S128x1024 ![0, 1] bcast_S1x1024_S128x1024_0_1 (floorMod bcast_S_S1x1024 4#32 kRow))
      (broadcastInDim S128x1024 ![0, 1] bcast_S128x1_S128x1024_0_1 (floorMod bcast_S_S128x1 4#32 qCol)))

/-- Whether a query keeps any key. -/
def keepRow : IVec S128 1 := Host.reduce IntOp.ori keep (constantI S_ 1 0#1) reducesTo_S128x1024_S128_d1 h_S_

section
variable (x : FVec F S2x128x512 .f32) (wq : FVec F S512x256 .f32) (k v : FVec F S2x1024x4x64 .f32) (wo : FVec F S256x512 .f32)

/-- The projected queries, by head. -/
def q : FVec F S2x128x4x64 .f32 :=
  shapeCast _ (Host.dotGeneral dot_S2x128x512_S512x256_S2x128x256_2_0_01_1_n_n none x wq) shapeCasts_S2x128x256_S2x128x4x64

/-- The scores, minus infinity where the key is not kept. -/
def masked : FVec F S2x4x128x1024 .f32 :=
  select (broadcastInDim S2x4x128x1024 ![0, 1, 2, 3] bcast_S1x1x128x1024_S2x4x128x1024_0_1_2_3 (broadcastInDim S1x1x128x1024 ![2, 3] bcast_S128x1024_S1x1x128x1024_2_3 keep))
    (mulf (Host.dotGeneral dot_S2x128x4x64_S2x1024x4x64_S2x4x128x1024_3_3_1_1_02_02 none (q x wq) k)
      (broadcastInDim S2x4x128x1024 ![] bcast_S_S2x4x128x1024 (constant S_ .f32 0x3E000000#32)))
    (broadcastInDim S2x4x128x1024 ![] bcast_S_S2x4x128x1024 (id (constant S_ .f32 0xFF800000#32)))

/-- The maximum of each query's masked scores. -/
def peak : FVec F S2x4x128 .f32 :=
  Host.reduce FloatOps.maximumf (masked x wq k) (constant S_ .f32 0xFF800000#32) reducesTo_S2x4x128x1024_S2x4x128_d3 h_S_

/-- The exponentials of the masked scores less the maximum. -/
def shifted : FVec F S2x4x128x1024 .f32 :=
  Host.exp (subf (masked x wq k) (broadcastInDim S2x4x128x1024 ![0, 1, 2, 3] bcast_S2x4x128x1_S2x4x128x1024_0_1_2_3
    (broadcastInDim S2x4x128x1 ![0, 1, 2] bcast_S2x4x128_S2x4x128x1_0_1_2 (peak x wq k))))

/-- Their sums. -/
def total : FVec F S2x4x128 .f32 :=
  Host.reduceAdd (shifted x wq k) (constant S_ .f32 0x00000000#32) reducesTo_S2x4x128x1024_S2x4x128_d3 h_S_

/-- The normalized weights; zero for a query that keeps no key. -/
def probs : FVec F S2x4x128x1024 .f32 :=
  select (broadcastInDim S2x4x128x1024 ![0, 1, 2, 3] bcast_S1x1x128x1_S2x4x128x1024_0_1_2_3 (broadcastInDim S1x1x128x1 ![2] bcast_S128_S1x1x128x1_2 keepRow))
    (Host.divf (shifted x wq k) (broadcastInDim S2x4x128x1024 ![0, 1, 2, 3] bcast_S2x4x128x1_S2x4x128x1024_0_1_2_3
      (select (broadcastInDim S2x4x128x1 ![0, 1, 2, 3] bcast_S1x1x128x1_S2x4x128x1_0_1_2_3 (broadcastInDim S1x1x128x1 ![2] bcast_S128_S1x1x128x1_2 keepRow))
        (broadcastInDim S2x4x128x1 ![0, 1, 2] bcast_S2x4x128_S2x4x128x1_0_1_2 (total x wq k))
        (broadcastInDim S2x4x128x1 ![] bcast_S_S2x4x128x1 (id (constant S_ .f32 0x3F800000#32))))))
    (broadcastInDim S2x4x128x1024 ![] bcast_S_S2x4x128x1024 (id (constant S_ .f32 0x00000000#32)))

/-- The result. -/
def out : FVec F S2x128x512 .f32 :=
  Host.dotGeneral dot_S2x128x256_S256x512_S2x128x512_2_0_01_1_n_n none
    (shapeCast _ (transpose S2x128x4x64 [0, 3, 1, 2] (Host.dotGeneral dot_S2x1024x4x64_S2x4x128x1024_S2x4x64x128_1_3_3_2_02_01 none v (probs x wq k))
      transposes_S2x4x64x128_S2x128x4x64_0_3_1_2) shapeCasts_S2x128x4x64_S2x128x256) wo
end

/-- The reference's composed term is the last stage. -/
theorem res_eq (m : (ℓ : Loc nD τ sig) → Buf (Elt F) ℓ) (c : Dev nD) :
    Cert.ReferenceIdeal.Value.res_out0 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.ReferenceIdeal.Stages

end
-- ==== Proof.RefValue.lean ====
/-
# What the reference computes, element by element

For real inputs `x`, `Wq` and `K`, the reference's result is the attention's result.
-/
module

public import proofs.«01_k».proof.Proof.RefTerms
public import proofs.«01_k».proof.Proof.Softmax

@[expose] public section

noncomputable section

namespace Cert.ReferenceIdeal.Stages

open Cert.ReferenceIdeal Cert.ReferenceIdeal.Gen Idealize.ShloMosaic Idealize.ShloMosaic.TcCoe Idealize.SL.Sem
open Cert.Attention (IsReal Used query score weight mass pull context result lane)

/-! ## Which keys are kept -/

/-- A query's block. -/
theorem qBlk_apply (i : Fin 128) : qBlk (ix1 i) = BitVec.ofNat 32 (i.val / 64) := by
  pointwise [qBlk, floorDiv]
  revert i; decide +kernel

/-- A key's block. -/
theorem kBlk_apply (j : Fin 1024) : kBlk (ix1 j) = BitVec.ofNat 32 (j.val / 64) := by
  pointwise [kBlk, floorDiv]
  revert j; decide +kernel

/-- A query keeps the keys whose block is, modulo four, its own. -/
theorem keep_apply (i : Fin 128) (j : Fin 1024) : keep (ix2 i j) = if Used i j then 1 else 0 := by
  pointwise [keep, floorMod, modulus, qCol, kRow]
  rw [qBlk_apply, kBlk_apply]
  unfold Used
  obtain ⟨p, hp⟩ : ∃ p : Fin 2, p.val = i.val / 64 := ⟨⟨i.val / 64, by omega⟩, rfl⟩
  obtain ⟨q, hq⟩ : ∃ q : Fin 16, q.val = j.val / 64 := ⟨⟨j.val / 64, by omega⟩, rfl⟩
  rw [← hp, ← hq]
  clear hp hq
  revert p q; decide +kernel

/-- A key that query `i` keeps: the first of the block with its number. -/
def first (i : Fin 128) : Fin 1024 := ⟨64 * (i.val / 64), by omega⟩
theorem used_first (i : Fin 128) : Used i (first i) := by
  show 64 * (i.val / 64) / 64 % 4 = i.val / 64
  omega

/-- An "or" of bits, one of which is set, is set. -/
theorem fold_ori {ι : Type} [DecidableEq ι] (f : ι → BitVec 1) (s : Finset ι) {a : ι} (ha : a ∈ s) (hf : f a = 1) :
    s.fold IntOp.ori (0#1) f = 1 := by
  rw [← Finset.insert_erase ha, Finset.fold_insert (Finset.notMem_erase a s), hf]
  generalize Finset.fold IntOp.ori (0#1) f (s.erase a) = z
  revert z; decide

/-- Every query keeps a key. -/
theorem keepRow_apply (i : Fin 128) : keepRow (ix1 i) = 1 := by
  pointwise [keepRow]
  exact fold_ori _ _ (Finset.mem_univ (first i)) (by rw [keep_apply, if_pos (used_first i)])

/-! ## The stages -/

section
variable (x : FVec Ideal S2x128x512 .f32) (wq : FVec Ideal S512x256 .f32) (k v : FVec Ideal S2x1024x4x64 .f32) (wo : FVec Ideal S256x512 .f32)

/-- A projected query. -/
theorem q_apply (b : Fin 2) (i : Fin 128) (h : Fin 4) (d : Fin 64) : q x wq (ix4 b i h d) = query x wq b i (lane h d) := by
  pointwise [q, query, lane]
  refine Finset.sum_congr rfl fun e _ => ?_
  rw [show (⟨h.val * 64 + d.val, by omega⟩ : Fin 256) = ⟨64 * h.val + d.val, by omega⟩ from Fin.ext (by show h.val * 64 + _ = 64 * h.val + _; omega)]

/-- The word of minus infinity. -/
theorem negInf : Ideal.ofBits .f32 0xFF800000#32 = (⊥ : EReal) := by
  simp [Ideal.ofBits, Ideal.ieee]

/-- A masked score. -/
theorem masked_apply (b : Fin 2) (h : Fin 4) (i : Fin 128) (j : Fin 1024) :
    masked x wq k (ix4 b h i j) = if Used i j then score x wq k b h i j else ⊥ := by
  pointwise [masked]
  simp only [q_apply, keep_apply]
  have hb : (id (constant (F := Ideal) S_ .f32 0xFF800000#32) ix0 : EReal) = ⊥ := by
    exact negInf
  rw [hb]
  by_cases hu : Used i j
  · rw [if_pos hu, if_pos hu]; rfl
  · rw [if_neg hu, if_neg hu]; rfl

/-- A query's maximum. -/
theorem peak_apply (b : Fin 2) (h : Fin 4) (i : Fin 128) :
    peak x wq k (ix3 b h i) = Finset.univ.fold max ⊥ fun j => if Used i j then score x wq k b h i j else ⊥ := by
  pointwise [peak]
  simp only [masked_apply, negInf]

/-- A shifted exponential. -/
theorem shifted_apply (b : Fin 2) (h : Fin 4) (i : Fin 128) (j : Fin 1024) :
    shifted x wq k (ix4 b h i j) = Ideal.exp ((if Used i j then score x wq k b h i j else ⊥) - peak x wq k (ix3 b h i)) := by
  pointwise [shifted]
  rw [masked_apply]

/-- Their sum. -/
theorem total_apply (b : Fin 2) (h : Fin 4) (i : Fin 128) : total x wq k (ix3 b h i) = ∑ j, shifted x wq k (ix4 b h i j) := by
  pointwise [total]

/-- A normalized weight. -/
theorem probs_apply (b : Fin 2) (h : Fin 4) (i : Fin 128) (j : Fin 1024) :
    probs x wq k (ix4 b h i j) = Ideal.div (shifted x wq k (ix4 b h i j)) (∑ j, shifted x wq k (ix4 b h i j)) := by
  pointwise [probs]
  rw [keepRow_apply, total_apply]; rfl

/-- The result, over the normalized weights. -/
theorem out_apply (b : Fin 2) (i : Fin 128) (n : Fin 512) : out x wq k v wo (ix3 b i n)
    = ∑ l : Fin 256, (∑ j, v (ix4 b j (Cert.Attention.headOf l) (Cert.Attention.posOf l)) * probs x wq k (ix4 b (Cert.Attention.headOf l) i j)) * wo (ix2 l n) := by
  pointwise [out]
  rfl

/-! ## The result -/

variable {x wq k}

/-- Real inputs have real scores. -/
theorem score_real (hx : ∀ p, IsReal (x p)) (hw : ∀ p, IsReal (wq p)) (hk : ∀ p, IsReal (k p)) (b : Fin 2) (h : Fin 4) (i : Fin 128) (j : Fin 1024) :
    IsReal (score x wq k b h i j) :=
  (IsReal.sum fun _ => (IsReal.sum fun _ => (hx _).mul (hw _)).mul (hk _)).mul ⟨_, rfl⟩

/-- The reference's result is the attention's result. -/
theorem out_eq (hx : ∀ p, IsReal (x p)) (hw : ∀ p, IsReal (wq p)) (hk : ∀ p, IsReal (k p)) : out x wq k v wo = result x wq k v wo := by
  suffices hp : ∀ (b : Fin 2) (i : Fin 128) (n : Fin 512), out x wq k v wo (ix3 b i n) = result x wq k v wo (ix3 b i n) from
    funext fun p => (congrArg _ (eq_ix3 p)).trans ((hp _ _ _).trans (congrArg _ (eq_ix3 p).symm))
  intro b i n
  rw [out_apply]
  refine Finset.sum_congr rfl fun l _ => congrArg (· * _) ?_
  show _ = context x wq k v b (Cert.Attention.headOf l) i (Cert.Attention.posOf l)
  generalize Cert.Attention.headOf l = h, Cert.Attention.posOf l = d
  choose s hs using score_real hx hw hk b h i
  obtain ⟨M, hM⟩ : IsReal (peak x wq k (ix3 b h i)) := by
    rw [peak_apply]
    refine Cert.Attention.isReal_fold_max (first i) ?_ fun j => ?_
    · rw [if_pos (used_first i), hs]; exact ⟨_, rfl⟩
    · split_ifs
      · rw [hs]; exact EReal.coe_ne_top _
      · exact bot_ne_top
  have e (j : Fin 1024) : shifted x wq k (ix4 b h i j) = ((Cert.Attention.wt (Used i) s j * Real.exp (-M) : ℝ) : EReal) := by
    rw [shifted_apply, hM, hs, Cert.Attention.shifted_real]
  have w (j : Fin 1024) : weight x wq k b h i j = ((Cert.Attention.wt (Used i) s j : ℝ) : EReal) := by
    unfold weight
    rw [hs, Cert.Attention.weight_real]
  show _ = Ideal.div (∑ j, weight x wq k b h i j * v (ix4 b j h d)) (∑ j, weight x wq k b h i j)
  simp only [w, probs_apply, e]
  rw [Cert.Attention.context_real (Used i) s (fun j => v (ix4 b j h d)) (used_first i)]
  refine Finset.sum_congr rfl fun j _ => ?_
  rw [Cert.Attention.quotient_real (Used i) s M (used_first i)]
end

end Cert.ReferenceIdeal.Stages

end
-- ==== Proof.Value.lean ====
/-
# The kernel's result is the reference's

Both programs, launched on the same inputs with the keys and values dealt to the devices, leave the attention's result.
-/
module

public import proofs.«01_k».proof.Proof.Frames
public import proofs.«01_k».proof.Proof.Total
public import proofs.«01_k».proof.Proof.RefValue
public import Idealize.ShloMosaic.Lib.LayoutAt

@[expose] public section

noncomputable section

namespace Cert.KernelIdeal.Exch

open Cert.KernelIdeal Cert.KernelIdeal.Gen
open Idealize.ShloMosaic
open Idealize.ShloMosaic.TcCoe
open Cert.Attention (place IsReal result)

variable (m : (ℓ : Loc nD τ sig) → Buf (Elt Ideal) ℓ)

/-- A device's input blocks are its argument arrays. -/
theorem insAt_x (c : Dev nD) : (insAt m c).x = m ((c.tc : Thread nD τ).loc main_arg0) := by
  exact Memref.read_access_unit_zero (Elt Ideal) main_arg0 (show (fun a => (win0_0.index t0_0) a * main_arg0.ty.shape.size a) = fun _ => 0 from
    funext fun a => by fin_cases a <;> decide) (fun a => by fin_cases a <;> decide) _
theorem insAt_wq (c : Dev nD) : (insAt m c).wq = m ((c.tc : Thread nD τ).loc main_arg1) := by
  exact Memref.read_access_unit_zero (Elt Ideal) main_arg1 (show (fun a => (win0_1.index t0_0) a * main_arg1.ty.shape.size a) = fun _ => 0 from
    funext fun a => by fin_cases a <;> decide) (fun a => by fin_cases a <;> decide) _
theorem insAt_k (c : Dev nD) : (insAt m c).k = m ((c.tc : Thread nD τ).loc main_arg2) := by
  exact Memref.read_access_unit_zero (Elt Ideal) main_arg2 (show (fun a => (win0_2.index t0_0) a * main_arg2.ty.shape.size a) = fun _ => 0 from
    funext fun a => by fin_cases a <;> decide) (fun a => by fin_cases a <;> decide) _
theorem insAt_v (c : Dev nD) : (insAt m c).v = m ((c.tc : Thread nD τ).loc main_arg3) := by
  exact Memref.read_access_unit_zero (Elt Ideal) main_arg3 (show (fun a => (win0_3.index t0_0) a * main_arg3.ty.shape.size a) = fun _ => 0 from
    funext fun a => by fin_cases a <;> decide) (fun a => by fin_cases a <;> decide) _
theorem insAt_wo (c : Dev nD) : (insAt m c).wo = m ((c.tc : Thread nD τ).loc main_arg4) := by
  exact Memref.read_access_unit_zero (Elt Ideal) main_arg4 (show (fun a => (win0_4.index t0_0) a * main_arg4.ty.shape.size a) = fun _ => 0 from
    funext fun a => by fin_cases a <;> decide) (fun a => by fin_cases a <;> decide) _

/-- Block `c` of the keys (or values), read at an index. -/
theorem block_place (K : Cert.Attention.T4 2 1024 4 64) (c : Fin 8) (b : Fin 2) (j : Fin 128) (h : Fin 4) (d : Fin 64) :
    Layout.block ⟨4, ![2, 128, 4, 64]⟩ ⟨4, ![2, 1024, 4, 64]⟩ 1 8 c K (by decide) (ix4 b j h d) = K (ix4 b (place c j) h d) := by
  unfold place
  shard_ext

/-- A whole array of keys is real when every device's block of it is. -/
theorem real_of_blocks {K : Cert.Attention.T4 2 1024 4 64}
    (hb : ∀ (c : Fin 8) p, IsReal (Layout.block ⟨4, ![2, 128, 4, 64]⟩ ⟨4, ![2, 1024, 4, 64]⟩ 1 8 c K (by decide) p)) (p) : IsReal (K p) := by
  suffices hp : ∀ (b : Fin 2) (j : Fin 1024) (h : Fin 4) (d : Fin 64), IsReal (K (ix4 b j h d)) from
    (congrArg (fun q => IsReal (K q)) (eq_ix4 p)).mpr (hp _ _ _ _)
  intro b j h d
  have e := hb ⟨j.val / 128, by omega⟩ (ix4 b ⟨j.val % 128, Nat.mod_lt _ (by decide)⟩ h d)
  rw [block_place] at e
  rwa [show place ⟨j.val / 128, by omega⟩ ⟨j.val % 128, Nat.mod_lt _ (by decide)⟩ = j from Fin.ext (Nat.div_add_mod j.val 128)] at e

/-- The output block of every device, when the inputs are those of whole arrays: the attention's result. -/
theorem outAt_eq {x : Cert.Attention.T3 2 128 512} {wq : Cert.Attention.T2 512 256} {K V : Cert.Attention.T4 2 1024 4 64}
    {wo : Cert.Attention.T2 256 512} (h₀ : ∀ c : Dev nD, m ((c.tc : Thread nD τ).loc main_arg0) = x)
    (h₁ : ∀ c : Dev nD, m ((c.tc : Thread nD τ).loc main_arg1) = wq)
    (h₂ : ∀ c : Dev nD, m ((c.tc : Thread nD τ).loc main_arg2) = Layout.block ⟨4, ![2, 128, 4, 64]⟩ ⟨4, ![2, 1024, 4, 64]⟩ 1 8 c K)
    (h₃ : ∀ c : Dev nD, m ((c.tc : Thread nD τ).loc main_arg3) = Layout.block ⟨4, ![2, 128, 4, 64]⟩ ⟨4, ![2, 1024, 4, 64]⟩ 1 8 c V)
    (h₄ : ∀ c : Dev nD, m ((c.tc : Thread nD τ).loc main_arg4) = wo) (c : Dev nD) : outAt m c = result x wq K V wo :=
  out_total (I := insAt m) {
    x := fun c => (insAt_x m c).trans (h₀ c)
    wq := fun c => (insAt_wq m c).trans (h₁ c)
    wo := fun c => (insAt_wo m c).trans (h₄ c)
    k := fun c b j h d => (congrFun ((insAt_k m c).trans (h₂ c)) (ix4 b j h d)).trans (block_place K c b j h d)
    v := fun c b j h d => (congrFun ((insAt_v m c).trans (h₃ c)) (ix4 b j h d)).trans (block_place V c b j h d) } c

end Cert.KernelIdeal.Exch

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelFrame
public import proofs.«01_k».proof.Proof.Frames
public import proofs.«01_k».proof.Proof.Precondition
public import proofs.«01_k».proof.Proof.Value
public import Idealize.ShloMosaic.Lib.Quiescent

@[expose] public section

noncomputable section

namespace Cert.Proof

open Idealize.ShloMosaic Idealize.SL.Sem

/-- The kernel as printed: its arguments unchanged, its counters at zero. -/
theorem frame_kernel : Cert.quiescent_Kernel := fun m g _ => Cert.Kernel.Exch.run_frame m g

/-- The idealized kernel likewise. -/
theorem frame_ideal : Cert.quiescent_KernelIdeal := fun m g _ => Cert.KernelIdeal.Exch.run_frame m g

/-- The reference has no counters, so its run alone gives its frame. -/
theorem frame_reference : Cert.quiescent_ReferenceIdeal := fun m g _ =>
  (θ_run Cert.ReferenceIdeal.defs _ _).mono (fun r h => ⟨fun c => (h c).2, sem_eq_zero_of_no_sems rfl r.2⟩)
    (Cert.ReferenceIdeal.Value.run m g)

/-- The one rewrite of the idealization: the mask's number is named −∞. -/
theorem preserves_mask : Cert.preserves_Kernel_KernelIdeal :=
  IdealRules.named_const.statement Cert.KernelIdeal.κ "mask" .f32 0xCE6E6B28#32 ⊥ rfl

/-- The result: both programs leave the attention of the whole keys and values. -/
theorem value [hPre : Cert.Pre_finite_scores_KernelIdeal.Facts] :
    Cert.algebraic_KernelIdeal_ReferenceIdeal_pre_finite_scores_KernelIdeal := by
  intro m g m' g' hp hin
  obtain ⟨hx, hw, -⟩ := Cert.Attention.real_of_pre (hp 0)
  have hk := Cert.KernelIdeal.Exch.real_of_blocks (K := m' (((0 : Dev Cert.ReferenceIdeal.nD).tc : Thread _ Cert.ReferenceIdeal.τ).loc Cert.ReferenceIdeal.main_arg2))
    fun c p => by
      have e := (Cert.Attention.real_of_pre (hp c)).2.2 p
      rw [(hin c).2.2.1] at e
      exact e
  rw [(hin 0).1] at hx
  rw [(hin 0).2.1] at hw
  have href := (Cert.ReferenceIdeal.Stages.res_eq m' 0).trans (Cert.ReferenceIdeal.Stages.out_eq
    (m' (((0 : Dev Cert.ReferenceIdeal.nD).tc : Thread _ Cert.ReferenceIdeal.τ).loc Cert.ReferenceIdeal.main_arg3))
    (m' (((0 : Dev Cert.ReferenceIdeal.nD).tc : Thread _ Cert.ReferenceIdeal.τ).loc Cert.ReferenceIdeal.main_arg4)) hx hw hk)
  have hker := Cert.KernelIdeal.Exch.outAt_eq m (fun c => (hin c).1) (fun c => (hin c).2.1) (fun c => (hin c).2.2.1)
    (fun c => (hin c).2.2.2.1) (fun c => (hin c).2.2.2.2)
  exact ⟨_, (θ_run Cert.KernelIdeal.defs _ _).mono (fun r h c => ⟨(h.1 c).1.trans (hker c), (h.1 c).2⟩) (Cert.KernelIdeal.Exch.run_named m g),
    (θ_run Cert.ReferenceIdeal.defs _ _).mono (fun r h => ⟨(h 0).1.trans href, (h 0).2⟩) (Cert.ReferenceIdeal.Value.run m' g')⟩

theorem claim : Cert.Claim := ⟨Cert.Kernel.Gen.facts, Cert.KernelIdeal.Gen.facts, Cert.ReferenceIdeal.Gen.facts,
  Cert.Pre_finite_scores_KernelIdeal.facts, Cert.Pre_finite_scores_ReferenceIdeal.facts,
  frame_kernel, frame_ideal, fun m g _ => frame_ideal m g trivial, frame_reference, fun m g _ => frame_reference m g trivial,
  preserves_mask, @value Cert.Pre_finite_scores_KernelIdeal.facts⟩

end Cert.Proof

end
